-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 256]⟩ ⟨2, ![256, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  bcast_S_S128x64 : S_.BroadcastsInDim S128x64 (![] : Fin 0 → Fin S128x64.rank)
  bcast_S_S256x2 : S_.BroadcastsInDim S256x2 (![] : Fin 0 → Fin S256x2.rank)

variable [Facts]

def fn {F : FTy → Type} [FloatOps F] (main_arg0 : FVec F S256x128 .bf16) (main_arg1 : FVec F S128x64 .bf16) (main_arg2 : IVec S256x2 32) (main_arg3 : FVec F S2x128x256 .bf16) : IVec S256x128 1 × IVec S128x64 1 × IVec S256x2 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_v3 : FVec F S128x64 .bf16 := Host.absf main_arg1
  let main_cst_0 : FVec F S_ .bf16 := constant S_ .bf16 0x7F80#16
  let main_v4 : FVec F S128x64 .bf16 := broadcastInDim S128x64 ![] bcast_S_S128x64 main_cst_0
  let main_v5 : IVec S128x64 1 := cmpf .olt main_v3 main_v4
  let main_c : IVec S_ 32 := constantI S_ 32 0#32
  let main_v6 : IVec S256x2 32 := broadcastInDim S256x2 ![] bcast_S_S256x2 main_c
  let main_v7 : IVec S256x2 1 := cmpi .sge main_arg2 main_v6
  let main_c_1 : IVec S_ 32 := constantI S_ 32 64#32
  let main_v8 : IVec S256x2 32 := broadcastInDim S256x2 ![] bcast_S_S256x2 main_c_1
  let main_v9 : IVec S256x2 1 := cmpi .slt main_arg2 main_v8
  let main_v10 : IVec S256x2 1 := andi main_v7 main_v9
  (main_v2, main_v5, main_v10)
-- ==== Pre_routed_ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S_ : Shape := ⟨0, ![]⟩

class Facts : Prop where
  bcast_S_S256x128 : S_.BroadcastsInDim S256x128 (![] : Fin 0 → Fin S256x128.rank)
  bcast_S_S128x64 : S_.BroadcastsInDim S128x64 (![] : Fin 0 → Fin S128x64.rank)
  bcast_S_S256x2 : S_.BroadcastsInDim S256x2 (![] : Fin 0 → Fin S256x2.rank)

variable [Facts]

def fn {F : FTy → Type} [FloatOps F] (main_arg0 : FVec F S256x128 .bf16) (main_arg1 : FVec F S128x64 .bf16) (main_arg2 : IVec S256x2 32) (main_arg3 : FVec F S64x128x256 .bf16) : IVec S256x128 1 × IVec S128x64 1 × IVec S256x2 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_v3 : FVec F S128x64 .bf16 := Host.absf main_arg1
  let main_cst_0 : FVec F S_ .bf16 := constant S_ .bf16 0x7F80#16
  let main_v4 : FVec F S128x64 .bf16 := broadcastInDim S128x64 ![] bcast_S_S128x64 main_cst_0
  let main_v5 : IVec S128x64 1 := cmpf .olt main_v3 main_v4
  let main_c : IVec S_ 32 := constantI S_ 32 0#32
  let main_v6 : IVec S256x2 32 := broadcastInDim S256x2 ![] bcast_S_S256x2 main_c
  let main_v7 : IVec S256x2 1 := cmpi .sge main_arg2 main_v6
  let main_c_1 : IVec S_ 32 := constantI S_ 32 64#32
  let main_v8 : IVec S256x2 32 := broadcastInDim S256x2 ![] bcast_S_S256x2 main_c_1
  let main_v9 : IVec S256x2 1 := cmpi .slt main_arg2 main_v8
  let main_v10 : IVec S256x2 1 := andi main_v7 main_v9
  (main_v2, main_v5, main_v10)
-- ==== Kernel.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S8x256 : Shape := ⟨2, ![8, 256]⟩
abbrev S32x8x256 : Shape := ⟨3, ![32, 8, 256]⟩
abbrev S32 : Shape := ⟨1, ![32]⟩
abbrev S_ : Shape := ⟨0, ![]⟩
abbrev S256x64 : Shape := ⟨2, ![256, 64]⟩
abbrev S256 : Shape := ⟨1, ![256]⟩
abbrev S256x1 : Shape := ⟨2, ![256, 1]⟩
abbrev S256x256 : Shape := ⟨2, ![256, 256]⟩
abbrev S1x128x256 : Shape := ⟨3, ![1, 128, 256]⟩
abbrev S128x256 : Shape := ⟨2, ![128, 256]⟩
abbrev S1 : Shape := ⟨1, ![1]⟩
abbrev S1x8x256 : Shape := ⟨3, ![1, 8, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x2, .i32⟩
  | .hbm, ⟨3, _⟩ => ⟨S2x128x256, .bf16⟩
  | .hbm, ⟨4, _⟩ => ⟨S8x256, .f32⟩
  | .local _ .vmem, ⟨0, _⟩ => ⟨S256x128, .bf16⟩
  | .local _ .vmem, ⟨1, _⟩ => ⟨S128x64, .bf16⟩
  | .local _ .vmem, ⟨2, _⟩ => ⟨S256x2, .i32⟩
  | .local _ .vmem, ⟨3, _⟩ => ⟨S2x128x256, .bf16⟩
  | .local _ .vmem, ⟨4, _⟩ => ⟨S8x256, .f32⟩
  | .local _ .vmem, ⟨5, _⟩ => ⟨S32x8x256, .bf16⟩
  | .local _ .vmem, ⟨6, _⟩ => ⟨S32x8x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_157 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v206 : BitVec 32 := Scalar.addi v2 c1_i32_157
  let c32_i32_158 : BitVec 32 := 32#32
  let v207 : BitVec 32 := Scalar.remsi v206 c32_i32_158
  let c0_i32_166 : BitVec 32 := 0#32
  let c0_i32_167 : BitVec 32 := 0#32
  ![v207.toNat, 0, 0]
def k0_dev32 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_157 : BitVec 32 := 1#32
  let v206 : BitVec 32 := Scalar.addi v2 c1_i32_157
  let c32_i32_158 : BitVec 32 := 32#32
  let v207 : BitVec 32 := Scalar.remsi v206 c32_i32_158
  let c1_i32_162 : BitVec 32 := 1#32
  let v208 : BitVec 32 := Scalar.muli v207 c1_i32_162
  let v209 : BitVec 32 := Scalar.addi c0_i32_163 v208
  v209.toNat
def k0_dev33 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_168 : BitVec 32 := 2#32
  let v218 : BitVec 32 := Scalar.addi v2 c2_i32_168
  let c32_i32_169 : BitVec 32 := 32#32
  let v219 : BitVec 32 := Scalar.remsi v218 c32_i32_169
  let c1_i32_173 : BitVec 32 := 1#32
  let v220 : BitVec 32 := Scalar.muli v219 c1_i32_173
  let v221 : BitVec 32 := Scalar.addi c0_i32_174 v220
  v221.toNat
def k0_dev34 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_179 : BitVec 32 := 3#32
  let v230 : BitVec 32 := Scalar.addi v2 c3_i32_179
  let c32_i32_180 : BitVec 32 := 32#32
  let v231 : BitVec 32 := Scalar.remsi v230 c32_i32_180
  let c1_i32_184 : BitVec 32 := 1#32
  let v232 : BitVec 32 := Scalar.muli v231 c1_i32_184
  let v233 : BitVec 32 := Scalar.addi c0_i32_185 v232
  v233.toNat
def k0_dev35 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_190 : BitVec 32 := 4#32
  let v242 : BitVec 32 := Scalar.addi v2 c4_i32_190
  let c32_i32_191 : BitVec 32 := 32#32
  let v243 : BitVec 32 := Scalar.remsi v242 c32_i32_191
  let c1_i32_195 : BitVec 32 := 1#32
  let v244 : BitVec 32 := Scalar.muli v243 c1_i32_195
  let v245 : BitVec 32 := Scalar.addi c0_i32_196 v244
  v245.toNat
def k0_dev36 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_201 : BitVec 32 := 5#32
  let v254 : BitVec 32 := Scalar.addi v2 c5_i32_201
  let c32_i32_202 : BitVec 32 := 32#32
  let v255 : BitVec 32 := Scalar.remsi v254 c32_i32_202
  let c1_i32_206 : BitVec 32 := 1#32
  let v256 : BitVec 32 := Scalar.muli v255 c1_i32_206
  let v257 : BitVec 32 := Scalar.addi c0_i32_207 v256
  v257.toNat
def k0_dev37 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_212 : BitVec 32 := 6#32
  let v266 : BitVec 32 := Scalar.addi v2 c6_i32_212
  let c32_i32_213 : BitVec 32 := 32#32
  let v267 : BitVec 32 := Scalar.remsi v266 c32_i32_213
  let c1_i32_217 : BitVec 32 := 1#32
  let v268 : BitVec 32 := Scalar.muli v267 c1_i32_217
  let v269 : BitVec 32 := Scalar.addi c0_i32_218 v268
  v269.toNat
def k0_dev38 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_223 : BitVec 32 := 7#32
  let v278 : BitVec 32 := Scalar.addi v2 c7_i32_223
  let c32_i32_224 : BitVec 32 := 32#32
  let v279 : BitVec 32 := Scalar.remsi v278 c32_i32_224
  let c1_i32_228 : BitVec 32 := 1#32
  let v280 : BitVec 32 := Scalar.muli v279 c1_i32_228
  let v281 : BitVec 32 := Scalar.addi c0_i32_229 v280
  v281.toNat
def k0_dev39 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_234 : BitVec 32 := 8#32
  let v290 : BitVec 32 := Scalar.addi v2 c8_i32_234
  let c32_i32_235 : BitVec 32 := 32#32
  let v291 : BitVec 32 := Scalar.remsi v290 c32_i32_235
  let c1_i32_239 : BitVec 32 := 1#32
  let v292 : BitVec 32 := Scalar.muli v291 c1_i32_239
  let v293 : BitVec 32 := Scalar.addi c0_i32_240 v292
  v293.toNat
def k0_dev40 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_245 : BitVec 32 := 9#32
  let v302 : BitVec 32 := Scalar.addi v2 c9_i32_245
  let c32_i32_246 : BitVec 32 := 32#32
  let v303 : BitVec 32 := Scalar.remsi v302 c32_i32_246
  let c1_i32_250 : BitVec 32 := 1#32
  let v304 : BitVec 32 := Scalar.muli v303 c1_i32_250
  let v305 : BitVec 32 := Scalar.addi c0_i32_251 v304
  v305.toNat
def k0_dev41 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_256 : BitVec 32 := 10#32
  let v314 : BitVec 32 := Scalar.addi v2 c10_i32_256
  let c32_i32_257 : BitVec 32 := 32#32
  let v315 : BitVec 32 := Scalar.remsi v314 c32_i32_257
  let c1_i32_261 : BitVec 32 := 1#32
  let v316 : BitVec 32 := Scalar.muli v315 c1_i32_261
  let v317 : BitVec 32 := Scalar.addi c0_i32_262 v316
  v317.toNat
def k0_dev42 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_267 : BitVec 32 := 11#32
  let v326 : BitVec 32 := Scalar.addi v2 c11_i32_267
  let c32_i32_268 : BitVec 32 := 32#32
  let v327 : BitVec 32 := Scalar.remsi v326 c32_i32_268
  let c1_i32_272 : BitVec 32 := 1#32
  let v328 : BitVec 32 := Scalar.muli v327 c1_i32_272
  let v329 : BitVec 32 := Scalar.addi c0_i32_273 v328
  v329.toNat
def k0_dev43 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_278 : BitVec 32 := 12#32
  let v338 : BitVec 32 := Scalar.addi v2 c12_i32_278
  let c32_i32_279 : BitVec 32 := 32#32
  let v339 : BitVec 32 := Scalar.remsi v338 c32_i32_279
  let c1_i32_283 : BitVec 32 := 1#32
  let v340 : BitVec 32 := Scalar.muli v339 c1_i32_283
  let v341 : BitVec 32 := Scalar.addi c0_i32_284 v340
  v341.toNat
def k0_dev44 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_289 : BitVec 32 := 13#32
  let v350 : BitVec 32 := Scalar.addi v2 c13_i32_289
  let c32_i32_290 : BitVec 32 := 32#32
  let v351 : BitVec 32 := Scalar.remsi v350 c32_i32_290
  let c1_i32_294 : BitVec 32 := 1#32
  let v352 : BitVec 32 := Scalar.muli v351 c1_i32_294
  let v353 : BitVec 32 := Scalar.addi c0_i32_295 v352
  v353.toNat
def k0_dev45 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_300 : BitVec 32 := 14#32
  let v362 : BitVec 32 := Scalar.addi v2 c14_i32_300
  let c32_i32_301 : BitVec 32 := 32#32
  let v363 : BitVec 32 := Scalar.remsi v362 c32_i32_301
  let c1_i32_305 : BitVec 32 := 1#32
  let v364 : BitVec 32 := Scalar.muli v363 c1_i32_305
  let v365 : BitVec 32 := Scalar.addi c0_i32_306 v364
  v365.toNat
def k0_dev46 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_311 : BitVec 32 := 15#32
  let v374 : BitVec 32 := Scalar.addi v2 c15_i32_311
  let c32_i32_312 : BitVec 32 := 32#32
  let v375 : BitVec 32 := Scalar.remsi v374 c32_i32_312
  let c1_i32_316 : BitVec 32 := 1#32
  let v376 : BitVec 32 := Scalar.muli v375 c1_i32_316
  let v377 : BitVec 32 := Scalar.addi c0_i32_317 v376
  v377.toNat
def k0_dev47 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_322 : BitVec 32 := 16#32
  let v386 : BitVec 32 := Scalar.addi v2 c16_i32_322
  let c32_i32_323 : BitVec 32 := 32#32
  let v387 : BitVec 32 := Scalar.remsi v386 c32_i32_323
  let c1_i32_327 : BitVec 32 := 1#32
  let v388 : BitVec 32 := Scalar.muli v387 c1_i32_327
  let v389 : BitVec 32 := Scalar.addi c0_i32_328 v388
  v389.toNat
def k0_dev48 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_333 : BitVec 32 := 17#32
  let v398 : BitVec 32 := Scalar.addi v2 c17_i32_333
  let c32_i32_334 : BitVec 32 := 32#32
  let v399 : BitVec 32 := Scalar.remsi v398 c32_i32_334
  let c1_i32_338 : BitVec 32 := 1#32
  let v400 : BitVec 32 := Scalar.muli v399 c1_i32_338
  let v401 : BitVec 32 := Scalar.addi c0_i32_339 v400
  v401.toNat
def k0_dev49 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_344 : BitVec 32 := 18#32
  let v410 : BitVec 32 := Scalar.addi v2 c18_i32_344
  let c32_i32_345 : BitVec 32 := 32#32
  let v411 : BitVec 32 := Scalar.remsi v410 c32_i32_345
  let c1_i32_349 : BitVec 32 := 1#32
  let v412 : BitVec 32 := Scalar.muli v411 c1_i32_349
  let v413 : BitVec 32 := Scalar.addi c0_i32_350 v412
  v413.toNat
def k0_dev50 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_355 : BitVec 32 := 19#32
  let v422 : BitVec 32 := Scalar.addi v2 c19_i32_355
  let c32_i32_356 : BitVec 32 := 32#32
  let v423 : BitVec 32 := Scalar.remsi v422 c32_i32_356
  let c1_i32_360 : BitVec 32 := 1#32
  let v424 : BitVec 32 := Scalar.muli v423 c1_i32_360
  let v425 : BitVec 32 := Scalar.addi c0_i32_361 v424
  v425.toNat
def k0_dev51 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_366 : BitVec 32 := 20#32
  let v434 : BitVec 32 := Scalar.addi v2 c20_i32_366
  let c32_i32_367 : BitVec 32 := 32#32
  let v435 : BitVec 32 := Scalar.remsi v434 c32_i32_367
  let c1_i32_371 : BitVec 32 := 1#32
  let v436 : BitVec 32 := Scalar.muli v435 c1_i32_371
  let v437 : BitVec 32 := Scalar.addi c0_i32_372 v436
  v437.toNat
def k0_dev52 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_377 : BitVec 32 := 21#32
  let v446 : BitVec 32 := Scalar.addi v2 c21_i32_377
  let c32_i32_378 : BitVec 32 := 32#32
  let v447 : BitVec 32 := Scalar.remsi v446 c32_i32_378
  let c1_i32_382 : BitVec 32 := 1#32
  let v448 : BitVec 32 := Scalar.muli v447 c1_i32_382
  let v449 : BitVec 32 := Scalar.addi c0_i32_383 v448
  v449.toNat
def k0_dev53 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_388 : BitVec 32 := 22#32
  let v458 : BitVec 32 := Scalar.addi v2 c22_i32_388
  let c32_i32_389 : BitVec 32 := 32#32
  let v459 : BitVec 32 := Scalar.remsi v458 c32_i32_389
  let c1_i32_393 : BitVec 32 := 1#32
  let v460 : BitVec 32 := Scalar.muli v459 c1_i32_393
  let v461 : BitVec 32 := Scalar.addi c0_i32_394 v460
  v461.toNat
def k0_dev54 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_399 : BitVec 32 := 23#32
  let v470 : BitVec 32 := Scalar.addi v2 c23_i32_399
  let c32_i32_400 : BitVec 32 := 32#32
  let v471 : BitVec 32 := Scalar.remsi v470 c32_i32_400
  let c1_i32_404 : BitVec 32 := 1#32
  let v472 : BitVec 32 := Scalar.muli v471 c1_i32_404
  let v473 : BitVec 32 := Scalar.addi c0_i32_405 v472
  v473.toNat
def k0_dev55 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_410 : BitVec 32 := 24#32
  let v482 : BitVec 32 := Scalar.addi v2 c24_i32_410
  let c32_i32_411 : BitVec 32 := 32#32
  let v483 : BitVec 32 := Scalar.remsi v482 c32_i32_411
  let c1_i32_415 : BitVec 32 := 1#32
  let v484 : BitVec 32 := Scalar.muli v483 c1_i32_415
  let v485 : BitVec 32 := Scalar.addi c0_i32_416 v484
  v485.toNat
def k0_dev56 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_421 : BitVec 32 := 25#32
  let v494 : BitVec 32 := Scalar.addi v2 c25_i32_421
  let c32_i32_422 : BitVec 32 := 32#32
  let v495 : BitVec 32 := Scalar.remsi v494 c32_i32_422
  let c1_i32_426 : BitVec 32 := 1#32
  let v496 : BitVec 32 := Scalar.muli v495 c1_i32_426
  let v497 : BitVec 32 := Scalar.addi c0_i32_427 v496
  v497.toNat
def k0_dev57 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_432 : BitVec 32 := 26#32
  let v506 : BitVec 32 := Scalar.addi v2 c26_i32_432
  let c32_i32_433 : BitVec 32 := 32#32
  let v507 : BitVec 32 := Scalar.remsi v506 c32_i32_433
  let c1_i32_437 : BitVec 32 := 1#32
  let v508 : BitVec 32 := Scalar.muli v507 c1_i32_437
  let v509 : BitVec 32 := Scalar.addi c0_i32_438 v508
  v509.toNat
def k0_dev58 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_443 : BitVec 32 := 27#32
  let v518 : BitVec 32 := Scalar.addi v2 c27_i32_443
  let c32_i32_444 : BitVec 32 := 32#32
  let v519 : BitVec 32 := Scalar.remsi v518 c32_i32_444
  let c1_i32_448 : BitVec 32 := 1#32
  let v520 : BitVec 32 := Scalar.muli v519 c1_i32_448
  let v521 : BitVec 32 := Scalar.addi c0_i32_449 v520
  v521.toNat
def k0_dev59 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_454 : BitVec 32 := 28#32
  let v530 : BitVec 32 := Scalar.addi v2 c28_i32_454
  let c32_i32_455 : BitVec 32 := 32#32
  let v531 : BitVec 32 := Scalar.remsi v530 c32_i32_455
  let c1_i32_459 : BitVec 32 := 1#32
  let v532 : BitVec 32 := Scalar.muli v531 c1_i32_459
  let v533 : BitVec 32 := Scalar.addi c0_i32_460 v532
  v533.toNat
def k0_dev60 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_465 : BitVec 32 := 29#32
  let v542 : BitVec 32 := Scalar.addi v2 c29_i32_465
  let c32_i32_466 : BitVec 32 := 32#32
  let v543 : BitVec 32 := Scalar.remsi v542 c32_i32_466
  let c1_i32_470 : BitVec 32 := 1#32
  let v544 : BitVec 32 := Scalar.muli v543 c1_i32_470
  let v545 : BitVec 32 := Scalar.addi c0_i32_471 v544
  v545.toNat
def k0_dev61 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_476 : BitVec 32 := 30#32
  let v554 : BitVec 32 := Scalar.addi v2 c30_i32_476
  let c32_i32_477 : BitVec 32 := 32#32
  let v555 : BitVec 32 := Scalar.remsi v554 c32_i32_477
  let c1_i32_481 : BitVec 32 := 1#32
  let v556 : BitVec 32 := Scalar.muli v555 c1_i32_481
  let v557 : BitVec 32 := Scalar.addi c0_i32_482 v556
  v557.toNat
def k0_dev62 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_487 : BitVec 32 := 31#32
  let v566 : BitVec 32 := Scalar.addi v2 c31_i32_487
  let c32_i32_488 : BitVec 32 := 32#32
  let v567 : BitVec 32 := Scalar.remsi v566 c32_i32_488
  let c1_i32_492 : BitVec 32 := 1#32
  let v568 : BitVec 32 := Scalar.muli v567 c1_i32_492
  let v569 : BitVec 32 := Scalar.addi c0_i32_493 v568
  v569.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v578 : Index := Scalar.indexCast v2
  let c0_498 : Index := 0#32
  let c0_499 : Index := 0#32
  ![v578.toNat, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S256x64 : Shape := ⟨2, ![256, 64]⟩
abbrev S_ : Shape := ⟨0, ![]⟩
abbrev S256 : Shape := ⟨1, ![256]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩
abbrev S256x128x256 : Shape := ⟨3, ![256, 128, 256]⟩
abbrev S256x256 : Shape := ⟨2, ![256, 256]⟩

abbrev nBuf : Space → Nat
  | .hbm => 97
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x2, .i32⟩
  | .hbm, ⟨3, _⟩ => ⟨S64x128x256, .bf16⟩
  | .hbm, ⟨4, _⟩ => ⟨S256x128, .f32⟩
  | .hbm, ⟨5, _⟩ => ⟨S128x64, .f32⟩
  | .hbm, ⟨6, _⟩ => ⟨S256x64, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x64, .f32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x64, .f32⟩
  | .hbm, ⟨17, _⟩ => ⟨S256x64, .f32⟩
  | .hbm, ⟨18, _⟩ => ⟨S64x128x256, .f32⟩
  | .hbm, ⟨19, _⟩ => ⟨S256x1, .i32⟩
  | .hbm, ⟨20, _⟩ => ⟨S256, .i32⟩
  | .hbm, ⟨21, _⟩ => ⟨S256x1, .i32⟩
  | .hbm, ⟨22, _⟩ => ⟨S256, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S256x1x1, .i32⟩
  | .hbm, ⟨32, _⟩ => ⟨S1, .i32⟩
  | .hbm, ⟨33, _⟩ => ⟨S_, .i32⟩
  | .hbm, ⟨34, _⟩ => ⟨S256x1x1, .i32⟩
  | .hbm, ⟨35, _⟩ => ⟨S256x1x1, .i1⟩
  | .hbm, ⟨36, _⟩ => ⟨S1x1x1, .i32⟩
  | .hbm, ⟨37, _⟩ => ⟨S256x1x1, .i32⟩
  | .hbm, ⟨38, _⟩ => ⟨S256x1x1, .i1⟩
  | .hbm, ⟨39, _⟩ => ⟨S256x1x1, .i1⟩
  | .hbm, ⟨40, _⟩ => ⟨S_, .i1⟩
  | .hbm, ⟨41, _⟩ => ⟨S256x1, .i1⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x1, .i32⟩
  | .hbm, ⟨54, _⟩ => ⟨S256x1x1, .i32⟩
  | .hbm, ⟨55, _⟩ => ⟨S1, .i32⟩
  | .hbm, ⟨56, _⟩ => ⟨S_, .i32⟩
  | .hbm, ⟨57, _⟩ => ⟨S256x1x1, .i32⟩
  | .hbm, ⟨58, _⟩ => ⟨S256x1x1, .i1⟩
  | .hbm, ⟨59, _⟩ => ⟨S1x1x1, .i32⟩
  | .hbm, ⟨60, _⟩ => ⟨S256x1x1, .i32⟩
  | .hbm, ⟨61, _⟩ => ⟨S256x1x1, .i1⟩
  | .hbm, ⟨62, _⟩ => ⟨S256x1x1, .i1⟩
  | .hbm, ⟨63, _⟩ => ⟨S_, .i1⟩
  | .hbm, ⟨64, _⟩ => ⟨S256x1, .i1⟩
  | .hbm, ⟨65, _⟩ => ⟨S256x1, .f32⟩
  | .hbm, ⟨66, _⟩ => ⟨S_, .f32⟩
  | .hbm, ⟨67, _⟩ => ⟨S256x1, .f32⟩
  | .hbm, ⟨68, _⟩ => ⟨S256x1, .f32⟩
  | .hbm, ⟨69, _⟩ => ⟨S256x1, .f32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S256x1, .i32⟩
  | .hbm, ⟨78, _⟩ => ⟨S256x128x256, .f32⟩
  | .hbm, ⟨79, _⟩ => ⟨S256x256, .f32⟩
  | .hbm, ⟨80, _⟩ => ⟨S_, .i32⟩
  | .hbm, ⟨81, _⟩ => ⟨S256, .i32⟩
  | .hbm, ⟨82, _⟩ => ⟨S256, .i1⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S256, .i32⟩
  | .hbm, ⟨87, _⟩ => ⟨S256x1, .i32⟩
  | .hbm, ⟨88, _⟩ => ⟨S256x128x256, .f32⟩
  | .hbm, ⟨89, _⟩ => ⟨S256x256, .f32⟩
  | .hbm, ⟨90, _⟩ => ⟨S256x1, .f32⟩
  | .hbm, ⟨91, _⟩ => ⟨S256x256, .f32⟩
  | .hbm, ⟨92, _⟩ => ⟨S256x256, .f32⟩
  | .hbm, ⟨93, _⟩ => ⟨S256x1, .f32⟩
  | .hbm, ⟨94, _⟩ => ⟨S256x256, .f32⟩
  | .hbm, ⟨95, _⟩ => ⟨S256x256, .f32⟩
  | .hbm, ⟨96, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v18 : Ref sig .tc := ⟨.hbm, 45, rfl⟩
abbrev main_v19 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.KernelIdeal.Fold.lean ====
/-
# The kernel's body, folded

The body signals 31 peers, computes its experts' gated output for all the tokens, starts 31 remote copies, waits for the
31 that land here and for the 31 that leave. Each of these four stretches is one operation at 31 offsets. This module
restates the body as four such stretches (`body_eq`), so that the run below is one lemma for a stretch's operation at an
unknown offset, and an induction over the offsets.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic Idealize.ShloMosaic.TcCoe
open Idealize.SL Idealize.SL.Sem

variable {F : FTy → Type} [FloatOps F]

/-- The 31 offsets other than zero, each one less. -/
abbrev offs : List (Fin 31) := [0, 1, 2, 3, 4, 5, 6, 7, 8, 9, 10, 11, 12, 13, 14, 15, 16, 17, 18, 19, 20, 21, 22, 23, 24, 25, 26, 27, 28, 29, 30]

/-- One operation at each offset of a list, in order, and then the rest. -/
def each {E : Type → Type} {α : Type} (f : Fin 31 → Prog E PUnit) (k : Prog E α) : List (Fin 31) → Prog E α
  | [] => k
  | r :: l => f r >>= fun _ => each f k l

/-- The device the signal at an offset goes to, as the program computes it. -/
def sigTo : Fin 31 → Dev nD → Nat := ![k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31]
/-- The device the transfer at an offset goes to, as the program computes it. -/
def sendTo : Fin 31 → Dev nD → Nat := ![k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57, k0_dev58, k0_dev59, k0_dev60, k0_dev61, k0_dev62]

/-- The signal at an offset goes that many devices up the ring. -/
theorem sigTo_eq : ∀ (r : Fin 31) (d : Dev nD), sigTo r d = (d.val + (r.val + 1)) % 32 := by
  decide +kernel
/-- So does the transfer. -/
theorem sendTo_eq : ∀ (r : Fin 31) (d : Dev nD), sendTo r d = (d.val + (r.val + 1)) % 32 := by
  decide +kernel
/-- The signal's target is one of the 32 devices. -/
theorem sigTo_lt (r : Fin 31) (d : Dev nD) : sigTo r d < nD := by rw [sigTo_eq]; exact Nat.mod_lt _ (by decide)
/-- So is the transfer's. -/
theorem sendTo_lt (r : Fin 31) (d : Dev nD) : sendTo r d < nD := by rw [sendTo_eq]; exact Nat.mod_lt _ (by decide)

/-! ## The buffers and semaphores the body names -/

/-- The tokens' staging buffer. -/
abbrev xM : Memref sig .tc .vmem S256x128 .bf16 := Memref.whole cc0_stg0_0
/-- The router's. -/
abbrev rwM : Memref sig .tc .vmem S128x64 .bf16 := Memref.whole cc0_stg1_0
/-- That of the indices of the chosen experts. -/
abbrev ixM : Memref sig .tc .vmem S256x2 .i32 := Memref.whole cc0_stg2_0
/-- That of the device's two experts. -/
abbrev ewM : Memref sig .tc .vmem S2x128x256 .bf16 := Memref.whole cc0_stg3_0
/-- The result's. -/
abbrev outM : Memref sig .tc .vmem S8x256 .f32 := Memref.whole cc0_stg4_0
/-- This device's partial output for every token. -/
abbrev partM : Memref sig .tc .vmem S32x8x256 .bf16 := Memref.whole cc0_scratch0
/-- The partial outputs of every device for this device's tokens. -/
abbrev accM : Memref sig .tc .vmem S32x8x256 .bf16 := Memref.whole cc0_scratch1

/-- The barrier semaphore. -/
abbrev barS : Sem sig := (SemArray.scalar (sig.barrier 0 rfl) : Sems sig S_).sem

/-- A slot of a scratch buffer is in bounds. -/
theorem slotInb (o : Nat) (ho : o < 32) : ∀ a, (![o, 0, 0] : Fin 3 → Nat) a + S1x8x256.size a ≤ S32x8x256.size a := by
  intro a; fin_cases a
  · show o + 1 ≤ 32; omega
  · show 0 + 8 ≤ 8; omega
  · show 0 + 256 ≤ 256; omega
/-- A transfer's semaphore is in bounds of its array. -/
theorem semInb (o : Nat) (ho : o < 32) : ∀ a, (![o] : Fin 1 → Nat) a + S1.size a ≤ S32.size a := by
  intro a; fin_cases a
  show o + 1 ≤ 32; omega

/-- One slot of a scratch buffer, at any offset that is in bounds. -/
abbrev slotAt (M : Memref sig .tc .vmem S32x8x256 .bf16) (off : Fin 3 → Nat) (h : ∀ a, off a + S1x8x256.size a ≤ S32x8x256.size a) :
    Memref sig .tc .vmem S8x256 .bf16 :=
  (M.slice (Rect.unit (s := S32x8x256) off S1x8x256.size h) (fun _ => rfl)).squeeze S8x256 squeezes_S1x8x256_S8x256

/-- The slot of the partial output that a transfer reads. -/
abbrev srcSlot (d : Dev nD) (r : Fin 31) : Memref sig .tc .vmem S8x256 .bf16 :=
  slotAt partM (k0_off1 d (BitVec.ofNat 32 (1 + r.val))) (k0_off1_inb d r)
/-- The slot of the receiver's gathering buffer that a transfer writes. -/
abbrev dstSlot (r : Fin 31) : Memref sig .tc .vmem S8x256 .bf16 :=
  slotAt accM ![r.val + 1, 0, 0] (slotInb (r.val + 1) (by omega))

/-- The semaphore raised when the transfer at an offset has left. -/
abbrev sendS (r : Fin 31) : DmaSem sig :=
  ((cc0_scratch2.slice (Rect.unit (s := S32) ![r.val + 1] S1.size (semInb (r.val + 1) (by omega)))).squeeze S_ squeezes_S1_S_).sem
/-- The semaphore raised when the transfer at an offset has landed. -/
abbrev recvS (r : Fin 31) : DmaSem sig :=
  ((cc0_scratch3.slice (Rect.unit (s := S32) ![r.val + 1] S1.size (semInb (r.val + 1) (by omega)))).squeeze S_ squeezes_S1_S_).sem

/-- A slot of the gathering buffer is whole words. -/
theorem words_dst : ∀ r : Fin 31, (Rect.unit (s := S32x8x256) ![r.val + 1, 0, 0] S1x8x256.size (slotInb (r.val + 1) (by omega))).WholeWords (EltTy.packing .bf16) := by
  decide +kernel

/-- The slot a transfer reads is exact in words. -/
theorem exact_src (d : Dev nD) (r : Fin 31) : (srcSlot d r).view.WordExact :=
  (((Memref.isWhole_whole cc0_scratch0).wordExact_slice rfl _ (k0_off1_wordsbf16 d r)).reshape _ _)
/-- The slot a transfer writes is exact in words. -/
theorem exact_dst (r : Fin 31) : (dstSlot r).view.WordExact :=
  (((Memref.isWhole_whole cc0_scratch1).wordExact_slice rfl _ (words_dst r)).reshape _ _)

/-! ## The four stretches' operations -/

/-- A program of one device's core. -/
abbrev Body (F : FTy → Type) [FloatOps F] := Prog (TpuEff nD τ sig (Elt F) Λ₀ .tc) PUnit

/-- The signal at an offset. -/
def sigOp (d : Dev nD) (r : Fin 31) : Body F := semSignalWord (⟨sigTo r d, sigTo_lt r d⟩ : Dev nD) barS 1#32
/-- The start of the transfer at an offset. -/
def sendOp (d : Dev nD) (r : Fin 31) : Body F :=
  Prog.lift (.enqueueDma (srcSlot d r) (.remote (Dev.tc (⟨sendTo r d, sendTo_lt r d⟩ : Dev nD)) (dstSlot r) (.dma (sendS r))) (.dma (recvS r))
    (exact_src d r) (exact_dst r) ⟨⟨rfl, Or.inl rfl⟩, trivial⟩)
/-- The wait for what lands at an offset. -/
def landOp (d : Dev nD) (r : Fin 31) : Body F :=
  Prog.lift (.waitDma2 (recvS r) (srcSlot d r) (dstSlot r) (exact_src d r) (exact_dst r))
/-- The wait for what leaves at an offset. -/
def leaveOp (d : Dev nD) (r : Fin 31) : Body F :=
  Prog.lift (.waitDma2 (sendS r) (dstSlot r) (srcSlot d r) (exact_dst r) (exact_src d r))

/-! ## The body -/

/-- All the tokens. -/
abbrev rX : Rect S256x128 := Rect.unit (s := S256x128) ![0, 0] S256x128.size inb_S256x128_S256x128_0_0
/-- The whole router. -/
abbrev rR : Rect S128x64 := Rect.unit (s := S128x64) ![0, 0] S128x64.size inb_S128x64_S128x64_0_0
/-- The column of the first choices. -/
abbrev rI0 : Rect S256x2 := Rect.unit (s := S256x2) ![0, 0] S256x1.size inb_S256x2_S256x1_0_0
/-- The column of the second choices. -/
abbrev rI1 : Rect S256x2 := Rect.unit (s := S256x2) ![0, 1] S256x1.size inb_S256x2_S256x1_0_1
/-- The matrix of the device's first expert. -/
abbrev rW0 : Rect S2x128x256 := Rect.unit (s := S2x128x256) ![0, 0, 0] S1x128x256.size inb_S2x128x256_S1x128x256_0_0_0
/-- The matrix of its second. -/
abbrev rW1 : Rect S2x128x256 := Rect.unit (s := S2x128x256) ![1, 0, 0] S1x128x256.size inb_S2x128x256_S1x128x256_1_0_0
/-- A whole scratch buffer. -/
abbrev rP : Rect S32x8x256 := Rect.unit (s := S32x8x256) ![0, 0, 0] S32x8x256.size inb_S32x8x256_S32x8x256_0_0_0
/-- Slot 0 of a scratch buffer. -/
abbrev rA0 : Rect S32x8x256 := Rect.unit (s := S32x8x256) ![0, 0, 0] S1x8x256.size inb_S32x8x256_S1x8x256_0_0_0
/-- The device's own slot of the partial output. -/
abbrev rOwn (d : Dev nD) : Rect S32x8x256 := Rect.unit (s := S32x8x256) (k0_off2 d) S1x8x256.size (k0_off2_inb d)
/-- The whole result. -/
abbrev rO : Rect S8x256 := Rect.unit (s := S8x256) ![0, 0] S8x256.size inb_S8x256_S8x256_0_0

/-- The device's number as the program's word. -/
abbrev word (d : Dev nD) : BitVec 32 := Scalar.remsi (Scalar.divsi (Dev.word d) 1#32) 32#32

/-- The partial output of device `d` for all the tokens, of what its loads read: the tokens, the router, the two columns of
    indices, its two experts. -/
def partOf (d : Dev nD) (x : Vec F S256x128 .bf16) (w : Vec F S128x64 .bf16) (i0 i1 : Vec F S256x1 .i32) (e0 e1 : Vec F S1x128x256 .bf16) :
    FVec F S32x8x256 .bf16 :=
  k0_pay12 (k0_pay9 (word d) (k0_pay1 x) (k0_pay3 i0) (k0_pay4 i1) (k0_pay5 x w i0) (k0_pay6 x w i1) e0)
    (k0_pay10 (word d) (k0_pay1 x) (k0_pay3 i0) (k0_pay4 i1) (k0_pay5 x w i0) (k0_pay6 x w i1)) (k0_pay11 e1) (constant S256x256 .f32 0x00000000#32)

/-- After the waits for what lands: the sum over the devices, and the waits for what leaves. -/
def tailAt (d : Dev nD) : Body F := do
  let v ← Prog.lift (.load accM rP.toLoadRect (View.loadsAt_vmem h_S32x8x256))
  let _ ← Prog.lift (.load outM rO.toLoadRect (View.loadsAt_vmem h_S8x256))
  Prog.lift (.store outM rO (k0_pay14 v) Finset.univ (View.stores_vmem_bits_univ h_S8x256 rfl) (.inl rfl))
  each (leaveOp d) (pure ⟨⟩) offs

/-- After the transfers are started: this device's own slot copied, and the waits for what lands. -/
def midAt (d : Dev nD) : Body F := do
  let v ← Prog.lift (.load partM (rOwn d).toLoadRect (View.loadsAt_vmem h_S1x8x256))
  let _ ← Prog.lift (.load accM rA0.toLoadRect (View.loadsAt_vmem h_S1x8x256))
  Prog.lift (.store accM rA0 (k0_pay13 v) Finset.univ
    (View.stores_vmem h_S1x8x256 ((Memref.isWhole_whole cc0_scratch1).storeExact_slice rfl _ packedbf16_S32x8x256_S1x8x256_0_0_0) (fun _ => rfl)) (.inl rfl))
  each (landOp d) (tailAt d) offs

/-- After the signals: the partial output computed and stored, the wait for every peer, and the transfers. -/
def compAt (d : Dev nD) : Body F := do
  let x ← Prog.lift (.load xM rX.toLoadRect (View.loadsAt_vmem h_S256x128))
  let w ← Prog.lift (.load rwM rR.toLoadRect (View.loadsAt_vmem h_S128x64))
  let i0 ← Prog.lift (.load ixM rI0.toLoadRect (View.loadsAt_vmem h_S256x1))
  let i1 ← Prog.lift (.load ixM rI1.toLoadRect (View.loadsAt_vmem h_S256x1))
  let e0 ← Prog.lift (.load ewM rW0.toLoadRect (View.loadsAt_vmem h_S1x128x256))
  let e1 ← Prog.lift (.load ewM rW1.toLoadRect (View.loadsAt_vmem h_S1x128x256))
  let _ ← Prog.lift (.load partM rP.toLoadRect (View.loadsAt_vmem h_S32x8x256))
  Prog.lift (.store partM rP (partOf d x w i0 i1 e0 e1) Finset.univ
    (View.stores_vmem h_S32x8x256 ((Memref.isWhole_whole cc0_scratch0).storeExact_slice rfl _ packedbf16_S32x8x256_S32x8x256_0_0_0) (fun _ => rfl)) (.inl rfl))
  semWaitWord barS 31#32
  each (sendOp d) (midAt d) offs

/-- The body, folded. -/
def bodyFold : Body F := Prog.lift .deviceId >>= fun d => each (sigOp d) (compAt d) offs

/-- The kernel's body at its own buffers. -/
abbrev theBody : Body F :=
  cc0_body xM (Memref.isWhole_whole _) rwM (Memref.isWhole_whole _) ixM (Memref.isWhole_whole _) ewM (Memref.isWhole_whole _)
    outM (Memref.isWhole_whole _) partM (Memref.isWhole_whole _) accM (Memref.isWhole_whole _) cc0_scratch2 cc0_scratch3

set_option maxRecDepth 65536 in
set_option maxHeartbeats 4000000 in
/-- The folded body is the kernel's. -/
theorem body_eq : theBody (F := F) = bodyFold := rfl

end Cert.KernelIdealRun

end
-- ==== Proof.KernelIdeal.Proto.lean ====
/-
# The protocol

The devices stand on a ring of 32; an offset `r : Fin 31` stands for `r + 1` steps up it. Three kinds of cells take part,
each with one round.

* The barrier cell of a device has 31 duties of one unit, one per offset: duty `r` is paid by the device at that offset up,
  and hands over the slot of that device's gathering buffer that this device will write, and that the cell it raises there
  is open.
* The receive cell of a device at an offset has one duty, paid by the transfer that lands there: it hands over the slot,
  holding what was sent.
* The send cell of a device at an offset has one duty, paid when its transfer has left: it gives back the slot sent from.
-/
module

public import proofs.«01_k».proof.Proof.KernelIdeal.Fold

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds, and the exchange's, whose duties are offsets -/

/-- The exchange's rounds. -/
abbrev UB : Type := URounds (GSem nD τ sig) (Fin 31)
/-- Both kinds of rounds. -/
abbrev UU : Type := UR sig nD τ × UB

local notation "𝕄" => MT nD τ sig Unit (Elt F) ℕ UU ℕ

/-- Where the pipeline's rounds stand among the resources. -/
abbrev EP : Emb (UR sig nD τ) (MT nD τ sig Unit (Elt F) ℕ UU ℕ) := embL
/-- Where the exchange's stand. -/
abbrev ER : Emb UB (MT nD τ sig Unit (Elt F) ℕ UU ℕ) := embR

/-! ## The ring -/

/-- The device `r + 1` steps up the ring. -/
def up (c : Dev nD) (r : Fin 31) : Dev nD := ⟨(c.val + (r.val + 1)) % 32, Nat.mod_lt _ (by decide)⟩

/-- Going up by an offset and by its mirror image comes back. -/
theorem up_rev (c : Dev nD) (r : Fin 31) : up (up c r) r.rev = c := by
  have hc : c.val < 32 := c.isLt
  have hr := r.isLt
  apply Fin.ext
  show ((c.val + (r.val + 1)) % 32 + (r.rev.val + 1)) % 32 = c.val
  rw [Fin.val_rev]; omega
/-- The same, the mirror image first. -/
theorem rev_up (c : Dev nD) (r : Fin 31) : up (up c r.rev) r = c := by
  have h := up_rev c r.rev
  rwa [Fin.rev_rev] at h

/-- The target of a signal, as a device of the ring. -/
theorem sigTo_up (c : Dev nD) (r : Fin 31) : (⟨sigTo r c, sigTo_lt r c⟩ : Dev nD) = up c r := Fin.ext (sigTo_eq r c)
/-- The target of a transfer, as a device of the ring. -/
theorem sendTo_up (c : Dev nD) (r : Fin 31) : (⟨sendTo r c, sendTo_lt r c⟩ : Dev nD) = up c r := Fin.ext (sendTo_eq r c)

/-! ## The cells -/

/-- The barrier cell of a device. -/
abbrev barCell (c : Dev nD) : GSem nD τ sig := ((c : Thread nD τ), .reg barS)
/-- Its send cell at an offset. -/
abbrev sendCell (c : Dev nD) (r : Fin 31) : GSem nD τ sig := ((c : Thread nD τ), .dma (sendS r))
/-- Its receive cell at an offset. -/
abbrev recvCell (c : Dev nD) (r : Fin 31) : GSem nD τ sig := ((c : Thread nD τ), .dma (recvS r))

/-- What a semaphore is for. -/
inductive Role
  | bar | send (r : Fin 31) | recv (r : Fin 31) | other

/-- The role of each semaphore, by its number. -/
def role : SemLoc sig → Role
  | .reg s => if s = barS then .bar else .other
  | .dma q =>
    if h : 6 ≤ q.val ∧ q.val - 6 < 31 then .send ⟨q.val - 6, h.2⟩
    else if h : 38 ≤ q.val ∧ q.val - 38 < 31 then .recv ⟨q.val - 38, h.2⟩ else .other

/-- The barrier semaphore's role. -/
theorem role_bar : role (.reg barS) = .bar := by
  show (if barS = barS then Role.bar else Role.other) = _
  rw [if_pos rfl]
/-- The number of a send semaphore. -/
theorem sendS_val : ∀ r : Fin 31, (sendS r).val = 6 + r.val := by decide +kernel
/-- The number of a receive semaphore. -/
theorem recvS_val : ∀ r : Fin 31, (recvS r).val = 38 + r.val := by decide +kernel
/-- A send semaphore's role. -/
theorem role_send (r : Fin 31) : role (.dma (sendS r)) = .send r := by
  have h := sendS_val r
  have hr := r.isLt
  show (if h : 6 ≤ (sendS r).val ∧ (sendS r).val - 6 < 31 then Role.send ⟨(sendS r).val - 6, h.2⟩ else _) = _
  rw [dif_pos ⟨by omega, by omega⟩]
  exact congrArg Role.send (Fin.ext (by show (sendS r).val - 6 = r.val; omega))
/-- A receive semaphore's role. -/
theorem role_recv (r : Fin 31) : role (.dma (recvS r)) = .recv r := by
  have h := recvS_val r
  have hr := r.isLt
  show (if h : 6 ≤ (recvS r).val ∧ (recvS r).val - 6 < 31 then Role.send ⟨(recvS r).val - 6, h.2⟩
    else if h : 38 ≤ (recvS r).val ∧ (recvS r).val - 38 < 31 then Role.recv ⟨(recvS r).val - 38, h.2⟩ else Role.other) = _
  rw [dif_neg (by omega), dif_pos ⟨by omega, by omega⟩]
  exact congrArg Role.recv (Fin.ext (by show (recvS r).val - 38 = r.val; omega))

/-- The credit of one slot. -/
abbrev N : ℕ := (dstSlot 0).view.dmaCredit
/-- It is positive. -/
theorem N_pos : 0 < N := View.dmaCredit_pos _ (by decide)

/-! ## The slots of the two buffers -/

/-- The slot `r + 1` of device `c`'s gathering buffer. -/
def accPts (c : Dev nD) (r : Fin 31) (f : Buf (Elt F) ((c : Thread nD τ).loc cc0_scratch1)) : sProp 𝕄 :=
  (dstSlot r).view.loc (c : Thread nD τ) ↦[(dstSlot r).view.set]{fullShare} f
/-- The slot of device `c`'s partial output that its transfer at an offset reads. -/
def partPts (c : Dev nD) (r : Fin 31) (f : Buf (Elt F) ((c : Thread nD τ).loc cc0_scratch0)) : sProp 𝕄 :=
  (srcSlot c r).view.loc (c : Thread nD τ) ↦[(srcSlot c r).view.set]{fullShare} f

omit [FloatOps F] in
/-- A slot of the gathering buffer can be handed over through a cell. -/
instance accPts_storable (c : Dev nD) (r) (f) : BI.Storable (upEmb : UEmb _ 𝕄) (accPts (F := F) c r f) := by unfold accPts; infer_instance
omit [FloatOps F] in
/-- A slot of the partial output can be handed over through a cell. -/
instance partPts_storable (c : Dev nD) (r) (f) : BI.Storable (upEmb : UEmb _ 𝕄) (partPts (F := F) c r f) := by unfold partPts; infer_instance

/-! ## Contents -/

variable (m : (ℓ : Loc nD τ sig) → Buf (Elt F) ℓ) (ρ : Dev nD → PrngReg)

/-- The tokens as device `c`'s staging buffer holds them; the other three operands follow. -/
def xin (c : Dev nD) : (cc0_stg0_0 : Ref sig .tc).ty.Contents (Elt F) := (win0_0.blk (0 : Fin 1)).view.read (Elt F) (m ((c : Thread nD τ).loc main_arg0))
/-- The router. -/
def rwin (c : Dev nD) : (cc0_stg1_0 : Ref sig .tc).ty.Contents (Elt F) := (win0_1.blk (0 : Fin 1)).view.read (Elt F) (m ((c : Thread nD τ).loc main_arg1))
/-- The indices of the chosen experts. -/
def ixin (c : Dev nD) : (cc0_stg2_0 : Ref sig .tc).ty.Contents (Elt F) := (win0_2.blk (0 : Fin 1)).view.read (Elt F) (m ((c : Thread nD τ).loc main_arg2))
/-- The device's two experts. -/
def ewin (c : Dev nD) : (cc0_stg3_0 : Ref sig .tc).ty.Contents (Elt F) := (win0_3.blk (0 : Fin 1)).view.read (Elt F) (m ((c : Thread nD τ).loc main_arg3))

/-- The partial output of device `c`: its two experts' gated output for all the tokens. -/
def partV (c : Dev nD) : (cc0_scratch0 : Ref sig .tc).ty.Contents (Elt F) :=
  partOf c (xin m c) (rwin m c) (ixM.view.readAt (Elt F) rI0.toLoadRect (ixin m c)) (ixM.view.readAt (Elt F) rI1.toLoadRect (ixin m c))
    (ewM.view.readAt (Elt F) rW0.toLoadRect (ewin m c)) (ewM.view.readAt (Elt F) rW1.toLoadRect (ewin m c))

/-- Whose partial output lands in a slot of device `c`: in slot 0 its own, in slot `k` that of the device `k` steps down. -/
def fromDev (c : Dev nD) (k : Nat) : Dev nD := ⟨(c.val + (32 - k)) % 32, Nat.mod_lt _ (by decide)⟩

/-- Device `c`'s gathering buffer when everything has landed: in each slot the sender's partial output for `c`'s tokens. -/
def accV (c : Dev nD) : (cc0_scratch1 : Ref sig .tc).ty.Contents (Elt F) := fun i =>
  partV m (fromDev c (i 0).val) (Fin.cons (⟨c.val, c.isLt⟩ : Fin 32) (fun a : Fin 2 => i a.succ))

/-- The result of device `c`: the sum over the slots. -/
def outV (c : Dev nD) : (cc0_stg4_0 : Ref sig .tc).ty.Contents (Elt F) := k0_pay14 (accV m c)

/-! ## The schedule -/

/-- What the device `r + 1` steps up from `c` hands to `c` with its signal. -/
def barPay (c : Dev nD) (r : Fin 31) : sProp 𝕄 := iprop((∃ f, accPts (up c r) r f) ∗ reached ER (recvCell (up c r) r) 0)

/-- The duties of a cell, by its role. -/
def dutiesOf : Role → Finset (Fin 31)
  | .bar => Finset.univ | .send _ => {0} | .recv _ => {0} | .other => ∅
/-- What a duty of device `c`'s cell hands over, by the cell's role. -/
def payOf (c : Dev nD) : Role → Fin 31 → sProp 𝕄
  | .bar, d => barPay c d | .send r, _ => partPts c r (partV m c) | .recv r, _ => accPts c r (accV m c) | .other, _ => iprop(emp)
/-- How much a duty pays, by the cell's role. -/
def amountOf' : Role → ℕ
  | .bar => 1 | _ => N

/-- One round of every cell. -/
def sched : Rounds.Schedule (GSem nD τ sig) (Fin 31) 𝕄 where
  duties g r := if r = 0 ∧ g.1.2 = .tc then dutiesOf (role g.2) else ∅
  unitless _ := False
  amount g _ _ := amountOf' (role g.2)
  payload g _ d := payOf m g.1.1 (role g.2) d
  amount_pos g _ _ _ := by
    cases h : role g.2 <;> first | exact Nat.one_pos | exact N_pos

/-- Every payload can be kept in a cell. -/
instance sched_payload_storable (g : GSem nD τ sig) (r : ℕ) (d : Fin 31) :
    BI.Storable (upEmb : UEmb _ 𝕄) ((sched (F := F) m).payload g r d) := by
  show BI.Storable upEmb (payOf m g.1.1 (role g.2) d)
  cases role g.2 <;> (unfold payOf; try unfold barPay) <;> infer_instance

section Sched
variable (c : Dev nD) (r : Fin 31)

/-- The duties of a device's cell are those of its role. -/
theorem duties_tc (sm : SemLoc sig) : (sched (F := F) m).duties ((c : Thread nD τ), sm) 0 = dutiesOf (role sm) := by
  show (if (0 : ℕ) = 0 ∧ ((c : Thread nD τ)).2 = .tc then dutiesOf (role sm) else ∅) = _
  rw [if_pos ⟨rfl, rfl⟩]
/-- A barrier cell has all 31 duties. -/
theorem duties_bar : (sched (F := F) m).duties (barCell c) 0 = Finset.univ := (duties_tc m c _).trans (by rw [role_bar]; rfl)
/-- A send cell has one. -/
theorem duties_send : (sched (F := F) m).duties (sendCell c r) 0 = {0} := (duties_tc m c _).trans (by rw [role_send]; rfl)
/-- A receive cell has one. -/
theorem duties_recv : (sched (F := F) m).duties (recvCell c r) 0 = {0} := (duties_tc m c _).trans (by rw [role_recv]; rfl)
/-- No cell has a duty after its first round. -/
theorem duties_later (g : GSem nD τ sig) : ∀ n, 1 ≤ n → (sched (F := F) m).duties g n = ∅ := fun n hn => if_neg fun h => by omega

/-- A duty of a barrier cell pays one unit. -/
theorem amount_bar (d : Fin 31) : (sched (F := F) m).amount (barCell c) 0 d = 1 := (congrArg amountOf' role_bar).trans rfl
/-- That of a send cell pays a slot's credit. -/
theorem amount_send (d : Fin 31) : (sched (F := F) m).amount (sendCell c r) 0 d = N := (congrArg amountOf' (role_send r)).trans rfl
/-- So does that of a receive cell. -/
theorem amount_recv (d : Fin 31) : (sched (F := F) m).amount (recvCell c r) 0 d = N := (congrArg amountOf' (role_recv r)).trans rfl

/-- A duty of a barrier cell hands over a slot of the peer that pays it. -/
theorem payload_bar (d : Fin 31) : (sched (F := F) m).payload (barCell c) 0 d = barPay c d := by
  show payOf m c (role (.reg barS)) d = _; rw [role_bar]; rfl
/-- That of a send cell gives back the slot sent from. -/
theorem payload_send (d : Fin 31) : (sched (F := F) m).payload (sendCell c r) 0 d = partPts c r (partV m c) := by
  show payOf m c (role (.dma (sendS r))) d = _; rw [role_send]; rfl
/-- That of a receive cell hands over the slot filled. -/
theorem payload_recv (d : Fin 31) : (sched (F := F) m).payload (recvCell c r) 0 d = accPts c r (accV m c) := by
  show payOf m c (role (.dma (recvS r))) d = _; rw [role_recv]; rfl

/-- A barrier cell's round is 31 units. -/
theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
/-- A send cell's round is a slot's credit. -/
theorem expect_send : (sched (F := F) m).expect (sendCell c r) 0 = N := by
  unfold Schedule.expect Schedule.amountOf; rw [duties_send, Finset.sum_singleton, amount_send]
/-- So is a receive cell's. -/
theorem expect_recv : (sched (F := F) m).expect (recvCell c r) 0 = N := by
  unfold Schedule.expect Schedule.amountOf; rw [duties_recv, Finset.sum_singleton, amount_recv]

/-- The whole round of a barrier cell hands over a slot of every peer. -/
theorem rest_bar : bigSep ((sched (F := F) m).duties (barCell c) 0 \ ∅) (fun d => (sched (F := F) m).payload (barCell c) 0 d)
    = bigSep Finset.univ fun d => (barPay c d : sProp 𝕄) := by
  rw [Finset.sdiff_empty, duties_bar]; exact bigSep_congr fun d _ => payload_bar m c d
/-- The whole round of a send cell hands over the slot sent from. -/
theorem rest_send : bigSep ((sched (F := F) m).duties (sendCell c r) 0 \ ∅) (fun d => (sched (F := F) m).payload (sendCell c r) 0 d)
    = partPts c r (partV m c) := by
  rw [Finset.sdiff_empty, duties_send, bigSep_singleton, payload_send]
/-- The whole round of a receive cell hands over the slot filled. -/
theorem rest_recv : bigSep ((sched (F := F) m).duties (recvCell c r) 0 \ ∅) (fun d => (sched (F := F) m).payload (recvCell c r) 0 d)
    = accPts c r (accV m c) := by
  rw [Finset.sdiff_empty, duties_recv, bigSep_singleton, payload_recv]

end Sched

/-! ## Over the offsets, one after the other -/

/-- A resource at each offset of a list. -/
def all (Φ : Fin 31 → sProp 𝕄) : List (Fin 31) → sProp 𝕄
  | [] => iprop(emp)
  | r :: l => iprop(Φ r ∗ all Φ l)

omit [FloatOps F] in
/-- Over a list without repeats it is the family over the list's elements. -/
theorem all_eq (Φ : Fin 31 → sProp 𝕄) : ∀ l : List (Fin 31), l.Nodup → all Φ l = bigSep l.toFinset Φ
  | [], _ => rfl
  | r :: l, h => by
    have h' := List.nodup_cons.mp h
    rw [List.toFinset_cons, bigSep_insert (by rw [List.mem_toFinset]; exact h'.1), all, all_eq Φ l h'.2]; rfl

omit [FloatOps F] in
/-- Over all the offsets it is the whole family. -/
theorem all_offs (Φ : Fin 31 → sProp 𝕄) : all Φ offs = bigSep Finset.univ Φ := by
  rw [all_eq Φ offs (by decide), show offs.toFinset = Finset.univ from by decide]

/-! ## What each device owes, and the levels -/

/-- The credit of the transfers at a list of offsets. -/
def oweS (c : Dev nD) : List (Fin 31) → CellTallies nD τ sig Unit
  | [] => 0
  | r :: l => oweS c l + tallyAt (recvCell (up c r) r) () N
/-- The units of the signals at a list of offsets, and the credit of all the transfers. -/
def oweB (c : Dev nD) : List (Fin 31) → CellTallies nD τ sig Unit
  | [] => oweS c offs
  | r :: l => oweB c l + tallyAt (barCell (up c r)) () 1

/-- What a device owes at launch. -/
def O₀ (c : Dev nD) : CellTallies nD τ sig Unit := oweB c offs

/-- The one level of every core's cell. -/
def L (g : GSem nD τ sig) : Finset Unit := if g.1.2 = .tc then {()} else ∅
/-- The level of a cell, by its role. -/
def lvOf : Role → ℕ
  | .bar => 1 | .recv _ => 2 | _ => 0
/-- Barrier cells at 1, receive cells at 2, everything else at 0. -/
def lv (g : GSem nD τ sig) (_ : Unit) : ℕ := lvOf (role g.2)

/-- Cells of other threads have no level. -/
theorem L_of_ne (g : GSem nD τ sig) (h : g.1.2 ≠ .tc) : L g = ∅ := if_neg h
/-- Cells of a core have one. -/
theorem L_tc (c : Dev nD) (sm : SemLoc sig) : L ((c : Thread nD τ), sm) = {()} := if_pos rfl

/-- What is owed in one tally is owed to its cell. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- What the transfers owe is owed to receive cells. -/
theorem oweS_pos {c : Dev nD} {g : GSem nD τ sig} {u : Unit} : ∀ l, 0 < oweS c l g u → ∃ r, g = recvCell (up c r) r
  | [], h => absurd h (Nat.lt_irrefl 0)
  | r :: l, h => by
    rw [oweS, Pi.add_apply, Finsupp.add_apply] at h
    rcases Nat.eq_zero_or_pos (oweS c l g u) with h0 | h0
    · rw [h0, Nat.zero_add] at h
      exact ⟨r, tally_pos h⟩
    · exact oweS_pos l h0
/-- What the signals owe besides is owed to barrier cells. -/
theorem oweB_pos {c : Dev nD} {g : GSem nD τ sig} {u : Unit} : ∀ l, 0 < oweB c l g u → ∃ r, g = recvCell (up c r) r ∨ g = barCell (up c r)
  | [], h => (oweS_pos offs h).imp fun _ => Or.inl
  | r :: l, h => by
    rw [oweB, Pi.add_apply, Finsupp.add_apply] at h
    rcases Nat.eq_zero_or_pos (oweB c l g u) with h0 | h0
    · rw [h0, Nat.zero_add] at h
      exact ⟨r, Or.inr (tally_pos h)⟩
    · exact oweB_pos l h0

/-- A receive cell's level is 2. -/
theorem lv_recv (c : Dev nD) (r : Fin 31) (u : Unit) : lv (recvCell c r) u = 2 := by unfold lv; rw [role_recv]; rfl
/-- A barrier cell's level is 1. -/
theorem lv_bar (c : Dev nD) (u : Unit) : lv (barCell c) u = 1 := by unfold lv; rw [role_bar]; rfl

omit [FloatOps F] in
/-- A staging cell may be waited on whatever the exchange owes. -/
theorem mayWait_stage (c : Dev nD) (q : DmaSem sig) (hq : lvOf (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨r, rfl | rfl⟩ := oweB_pos offs hg <;> exact Finset.mem_singleton_self _)
      (fun p hp => by rw [Finset.mem_singleton.mp hp]; exact hq.le)
      (fun g u hg => by
        obtain ⟨r, rfl | rfl⟩ := oweB_pos offs hg
        · rw [lv_recv]; decide
        · rw [lv_bar]; decide)
  · rw [MayWait_zero]; iintro -; iempintro

omit [FloatOps F] in
/-- At its barrier wait a device owes receive cells only, which stand above. -/
theorem mayWait_bar (c : Dev nD) :
    (levAts L lv : sProp 𝕄) ⊢ MayWait (c : Thread nD τ) (.reg barS) () (oweS c offs) :=
  MayOwe.of_cut (L := L) (lev := lv) 1 (fun p hp => by rw [Finset.mem_singleton.mp hp, L_tc]; exact Finset.mem_singleton_self _)
    (fun g u hg => by obtain ⟨r, rfl⟩ := oweS_pos offs hg; exact Finset.mem_singleton_self _)
    (fun p hp => by rw [Finset.mem_singleton.mp hp]; exact (lv_bar c ()).le)
    (fun g u hg => by obtain ⟨r, rfl⟩ := oweS_pos offs hg; rw [lv_recv]; decide)

end Cert.KernelIdealRun

end
-- ==== Proof.KernelIdeal.Slots.lean ====
/-
# The slots of the two scratch buffers

Each scratch buffer is 32 slots of 8 × 256; a transfer reads one slot of the partial output and writes one slot of the
gathering buffer. Here: which elements a slot has, that the slots of the transfers are pairwise apart and leave one slot
over, and what a slot holds when a transfer, or the kernel's own copy, has written it.
-/
module

public import proofs.«01_k».proof.Proof.KernelIdeal.Proto
public import Idealize.ShloMosaic.Lib.Ring.FamCut
public import Idealize.ShloMosaic.Lib.Pipeline.Value

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## Which elements a slot has -/

/-- The transfer at an offset reads the slot numbered by its target. -/
theorem src_off (c : Dev nD) (r : Fin 31) : k0_off1 c (BitVec.ofNat 32 (1 + r.val)) = ![(up c r).val, 0, 0] := by
  have h : ∀ (c : Dev nD) (r : Fin 31), ∀ a, k0_off1 c (BitVec.ofNat 32 (1 + r.val)) a = (![(up c r).val, 0, 0] : Fin 3 → Nat) a := by decide +kernel
  exact funext (h c r)
/-- The device's own slot has the device's number. -/
theorem own_off (c : Dev nD) : k0_off2 c = ![c.val, 0, 0] := by
  have h : ∀ (c : Dev nD), ∀ a, k0_off2 c a = (![c.val, 0, 0] : Fin 3 → Nat) a := by decide +kernel
  exact funext (h c)

/-- An index of the buffer without its slot. -/
def inSlot (i : S32x8x256.Idx) : S8x256.Idx := Fin.tail i

/-- Element `x` of a slot is element `x` of the buffer behind the slot's number. -/
theorem slot_emb {off : Fin 3 → Nat} {h : ∀ a, off a + S1x8x256.size a ≤ S32x8x256.size a} {o : Nat} (ho : o < 32) (e : off = ![o, 0, 0])
    (x : S8x256.Idx) :
    (Rect.unit (s := S32x8x256) off S1x8x256.size h).emb (Shape.reshapeEquiv (s := S1x8x256) (s' := S8x256) squeezes_S1x8x256_S8x256.numel_eq x)
      = (Fin.cons (⟨o, ho⟩ : Fin 32) x : S32x8x256.Idx) := by
  subst e
  have hx : Shape.reshapeEquiv (s := S1x8x256) (s' := S8x256) squeezes_S1x8x256_S8x256.numel_eq x = Fin.cons ⟨0, Nat.one_pos⟩ x :=
    Shape.reshapeEquiv_cons_one _ x
  rw [hx]
  funext a
  apply Fin.ext
  rw [Rect.emb_apply]
  fin_cases a
  · show o + 1 * 0 = o; omega
  · show 0 + 1 * (x 0).val = (x 0).val; omega
  · show 0 + 1 * (x 1).val = (x 1).val; omega

/-- The elements of a slot, by its number. -/
theorem slot_set {off : Fin 3 → Nat} {h : ∀ a, off a + S1x8x256.size a ≤ S32x8x256.size a} {o : Nat} (ho : o < 32) (e : off = ![o, 0, 0])
    (i : S32x8x256.Idx) : i ∈ (Rect.unit (s := S32x8x256) off S1x8x256.size h).set ↔ (i 0).val = o := by
  rw [← Rect.map_emb_univ, Finset.mem_map]
  constructor
  · rintro ⟨y, -, rfl⟩
    obtain ⟨x, rfl⟩ := (Shape.reshapeEquiv (s := S1x8x256) (s' := S8x256) squeezes_S1x8x256_S8x256.numel_eq).surjective y
    rw [slot_emb ho e]; rfl
  · intro hi
    refine ⟨Shape.reshapeEquiv (s := S1x8x256) (s' := S8x256) squeezes_S1x8x256_S8x256.numel_eq (inSlot i), Finset.mem_univ _, ?_⟩
    rw [slot_emb ho e]
    funext a
    refine Fin.cases (Fin.ext hi.symm) (fun b => rfl) a

/-- The elements a transfer writes, as a rectangle. -/
theorem dst_set (r : Fin 31) : (dstSlot r).view.set = (Rect.unit (s := S32x8x256) ![r.val + 1, 0, 0] S1x8x256.size (slotInb (r.val + 1) (by omega))).set := by
  exact (View.set_reshape _ _).trans (View.set_slice_whole cc0_scratch1 _)
/-- The elements a transfer reads, as a rectangle. -/
theorem src_set (c : Dev nD) (r : Fin 31) : (srcSlot c r).view.set
    = (Rect.unit (s := S32x8x256) (k0_off1 c (BitVec.ofNat 32 (1 + r.val))) S1x8x256.size (k0_off1_inb c r)).set := by
  exact (View.set_reshape _ _).trans (View.set_slice_whole cc0_scratch0 _)
/-- The elements of the slot a transfer writes, by the slot's number. -/
theorem mem_dst (r : Fin 31) (i : S32x8x256.Idx) : i ∈ (dstSlot r).view.set ↔ (i 0).val = r.val + 1 := by
  rw [dst_set]; exact slot_set (by omega) rfl i
/-- The elements of the slot a transfer reads, by the slot's number. -/
theorem mem_src (c : Dev nD) (r : Fin 31) (i : S32x8x256.Idx) : i ∈ (srcSlot c r).view.set ↔ (i 0).val = (up c r).val := by
  rw [src_set]; exact slot_set (up c r).isLt (src_off c r) i

/-- The slots of the gathering buffer as sets of its elements. -/
def accI (c : Dev nD) (r : Fin 31) : Finset (Idx ((c : Thread nD τ).loc cc0_scratch1)) := (dstSlot r).view.set
/-- The slots of the partial output as sets of its elements. -/
def partI (c : Dev nD) (r : Fin 31) : Finset (Idx ((c : Thread nD τ).loc cc0_scratch0)) := (srcSlot c r).view.set

/-- Different offsets lead to different devices. -/
theorem up_inj {c : Dev nD} {r r' : Fin 31} (h : (up c r).val = (up c r').val) : r = r' := by
  have h1 := r.isLt; have h2 := r'.isLt; have h3 : c.val < 32 := c.isLt
  have h' : (c.val + (r.val + 1)) % 32 = (c.val + (r'.val + 1)) % 32 := h
  apply Fin.ext; omega
/-- No offset leads back to the device itself. -/
theorem up_ne (c : Dev nD) (r : Fin 31) : (up c r).val ≠ c.val := by
  have h1 := r.isLt; have h3 : c.val < 32 := c.isLt
  show (c.val + (r.val + 1)) % 32 ≠ c.val
  omega

/-- The slots written at different offsets are apart. -/
theorem acc_disj (c : Dev nD) : ∀ r r', r ≠ r' → Disjoint (accI c r) (accI c r') := fun r r' hne => by
  rw [Finset.disjoint_left]
  intro i h1 h2
  have e1 := (mem_dst r i).mp h1
  have e2 := (mem_dst r' i).mp h2
  exact hne (Fin.ext (by omega))
/-- The slots read at different offsets are apart. -/
theorem part_disj (c : Dev nD) : ∀ r r', r ≠ r' → Disjoint (partI c r) (partI c r') := fun r r' hne => by
  rw [Finset.disjoint_left]
  intro i h1 h2
  exact hne (up_inj (((mem_src c r i).mp h1).symm.trans ((mem_src c r' i).mp h2)))

/-- The slot the transfers leave over of the gathering buffer is slot 0. -/
theorem mem_acc_rest (c : Dev nD) (i : S32x8x256.Idx) : i ∈ restOf (accI c) ↔ (i 0).val = 0 := by
  unfold restOf
  rw [Finset.mem_sdiff, Finset.mem_biUnion]
  have hi : (i 0).val < 32 := (i 0).isLt
  constructor
  · intro ⟨_, h⟩
    by_contra h0
    have hr : (i 0).val - 1 < 31 := by omega
    have hm : i ∈ (dstSlot ⟨(i 0).val - 1, hr⟩).view.set := (mem_dst ⟨(i 0).val - 1, hr⟩ i).mpr (show (i 0).val = (i 0).val - 1 + 1 by omega)
    exact h ⟨⟨(i 0).val - 1, hr⟩, Finset.mem_univ _, hm⟩
  · intro h0
    exact ⟨Finset.mem_univ _, fun ⟨r, _, h⟩ => by have := (mem_dst r i).mp h; omega⟩
/-- The slot they leave over of the partial output is the device's own. -/
theorem own_part_rest (c : Dev nD) (i : S32x8x256.Idx) (h : (i 0).val = c.val) : i ∈ restOf (partI c) := by
  unfold restOf
  rw [Finset.mem_sdiff, Finset.mem_biUnion]
  exact ⟨Finset.mem_univ _, fun ⟨r, _, h'⟩ => up_ne c r (((mem_src c r i).mp h').symm.trans h)⟩

/-! ## A buffer cut into its slots and put together again -/

/-- A buffer is its disjoint pieces and the rest of it. -/
theorem cut_iff {ℓ : Loc nD τ sig} {I : Fin 31 → Finset (Idx ℓ)} (hd : ∀ r r', r ≠ r' → Disjoint (I r) (I r')) (f : Buf (Elt F) ℓ) :
    (ℓ ↦{fullShare} f : sProp 𝕄) ⊣⊢ iprop(bigSep Finset.univ (fun r => ℓ ↦[I r]{fullShare} f) ∗ ℓ ↦[restOf I]{fullShare} f) := by
  rw [← pointsTo_biUnion Finset.univ I (fun b _ b' _ h => hd b b' h)]
  exact pointsTo_split_subset (Finset.subset_univ _)

/-- What the transfers leave over of the gathering buffer. -/
def accRest (c : Dev nD) (f : Buf (Elt F) ((c : Thread nD τ).loc cc0_scratch1)) : sProp 𝕄 := (c : Thread nD τ).loc cc0_scratch1 ↦[restOf (accI c)]{fullShare} f
/-- What they leave over of the partial output. -/
def partRest (c : Dev nD) (f : Buf (Elt F) ((c : Thread nD τ).loc cc0_scratch0)) : sProp 𝕄 := (c : Thread nD τ).loc cc0_scratch0 ↦[restOf (partI c)]{fullShare} f

/-- The gathering buffer whole is its 31 slots and slot 0. -/
theorem acc_cut (c : Dev nD) (f : Buf (Elt F) ((c : Thread nD τ).loc cc0_scratch1)) :
    ((c : Thread nD τ).loc cc0_scratch1 ↦{fullShare} f : sProp 𝕄) ⊣⊢ iprop(all (fun r => accPts c r f) offs ∗ accRest c f) := by
  rw [all_offs]; exact cut_iff (acc_disj c) f
/-- The partial output whole is its 31 slots to be sent and the device's own. -/
theorem part_cut (c : Dev nD) (f : Buf (Elt F) ((c : Thread nD τ).loc cc0_scratch0)) :
    ((c : Thread nD τ).loc cc0_scratch0 ↦{fullShare} f : sProp 𝕄) ⊣⊢ iprop(all (fun r => partPts c r f) offs ∗ partRest c f) := by
  rw [all_offs]; exact cut_iff (part_disj c) f

/-! ## What is written into a slot -/

variable (m : (ℓ : Loc nD τ sig) → Buf (Elt F) ℓ)

/-- The partial output that lands from a device at an offset is that device's. -/
theorem from_up (c : Dev nD) (r : Fin 31) : fromDev (up c r) (r.val + 1) = c := by
  have h1 := r.isLt; have h3 : c.val < 32 := c.isLt
  apply Fin.ext
  show ((c.val + (r.val + 1)) % 32 + (32 - (r.val + 1))) % 32 = c.val
  omega
/-- Slot 0 holds the device's own partial output. -/
theorem from_own (c : Dev nD) : fromDev c 0 = c := by
  have h3 : c.val < 32 := c.isLt
  apply Fin.ext
  show (c.val + (32 - 0)) % 32 = c.val
  omega

/-- A transfer from device `c` lands in its slot of the receiver's gathering buffer the elements due there. -/
theorem landed (c : Dev nD) (r : Fin 31) (fd : (cc0_scratch1 : Ref sig .tc).ty.Contents (Elt F)) :
    ∀ i ∈ (dstSlot r).view.set, (dstSlot r).view.write (Elt F) fd ((srcSlot c r).view.read (Elt F) (partV m c)) Finset.univ i = accV m (up c r) i := by
  intro i hi
  obtain ⟨x, -, rfl⟩ := Finset.mem_map.mp hi
  refine (View.write_emb_of_mem (x := x) _ _ (Finset.mem_univ x)).trans ?_
  have hs : (srcSlot c r).view.emb x = (Fin.cons (⟨(up c r).val, (up c r).isLt⟩ : Fin 32) x : S32x8x256.Idx) :=
    slot_emb (h := k0_off1_inb c r) (up c r).isLt (src_off c r) x
  have hd : (dstSlot r).view.emb x = (Fin.cons (⟨r.val + 1, by omega⟩ : Fin 32) x : S32x8x256.Idx) :=
    slot_emb (h := slotInb (r.val + 1) (by omega)) (by omega) rfl x
  show partV m c ((srcSlot c r).view.emb x) = accV m (up c r) ((dstSlot r).view.emb x)
  rw [hs, hd]
  show _ = partV m (fromDev (up c r) (r.val + 1)) _
  rw [from_up]
  rfl

/-- The device's own slot, copied. -/
def ownCopy (c : Dev nD) : FVec F S1x8x256 .bf16 := k0_pay13 (partM.view.readAt (Elt F) (rOwn c).toLoadRect (partV m c))

/-- The copy of the own slot leaves in slot 0 the elements due there. -/
theorem own_written (c : Dev nD) (fd : (cc0_scratch1 : Ref sig .tc).ty.Contents (Elt F)) :
    ∀ i ∈ restOf (accI c), (accM.access rA0 : View sig .tc _ _ _).write (Elt F) fd (ownCopy m c) Finset.univ i = accV m c i := by
  intro i hi
  have h0 := (mem_acc_rest c i).mp hi
  have hi' : (accM.access rA0 : View sig .tc _ _ _).emb (Shape.reshapeEquiv (s := S1x8x256) (s' := S8x256) squeezes_S1x8x256_S8x256.numel_eq (inSlot i)) = i := by
    refine (slot_emb (h := inb_S32x8x256_S1x8x256_0_0_0) (o := 0) (by omega) rfl (inSlot i)).trans ?_
    funext a
    exact Fin.cases (Fin.ext h0.symm) (fun b => rfl) a
  refine (congrArg _ hi'.symm).trans ((View.write_emb_of_mem (x := Shape.reshapeEquiv _ (inSlot i)) _ _ (Finset.mem_univ _)).trans ?_)
  have hs : (rOwn c).emb (Shape.reshapeEquiv (s := S1x8x256) (s' := S8x256) squeezes_S1x8x256_S8x256.numel_eq (inSlot i)) = (Fin.cons (⟨c.val, c.isLt⟩ : Fin 32) (inSlot i) : S32x8x256.Idx) :=
    slot_emb (h := k0_off2_inb c) c.isLt (own_off c) (inSlot i)
  have hp : ∀ v : Vec F S1x8x256 .bf16, k0_pay13 v = v := fun v => shapeCast_shapeCast v _ _
  show k0_pay13 (partM.view.readAt (Elt F) (rOwn c).toLoadRect (partV m c)) (Shape.reshapeEquiv _ (inSlot i)) = accV m c i
  rw [hp]
  show partV m c ((rOwn c).emb (Shape.reshapeEquiv _ (inSlot i))) = partV m (fromDev c (i 0).val) _
  rw [hs, h0, from_own]
  rfl

end Cert.KernelIdealRun

end
-- ==== Proof.KernelIdeal.Stretch.lean ====
/-
# The four stretches of the body

The signals, the transfers, the waits for what lands and the waits for what leaves, each as one statement about the list
of offsets still to come, by induction on that list.
-/
module

public import proofs.«01_k».proof.Proof.KernelIdeal.Slots

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What every device may use of every cell -/

/-- The cells of a device: its barrier's, and a send cell and a receive cell at each offset. -/
abbrev IxC : Type := Unit ⊕ (Fin 31 ⊕ Fin 31)
/-- The semaphore of each of them. -/
def semAt : IxC → SemLoc sig
  | .inl _ => .reg barS | .inr (.inl r) => .dma (sendS r) | .inr (.inr r) => .dma (recvS r)
/-- The cell of a device with that semaphore. -/
abbrev cellAt (p : Dev nD × IxC) : GSem nD τ sig := ((p.1 : Thread nD τ), semAt p.2)

variable (m : (ℓ : Loc nD τ sig) → Buf (Elt F) ℓ)
variable (K : Dev nD × IxC → ℕ)

/-- Every cell's invariant, and that its round 0 is open. -/
def records : sProp 𝕄 :=
  iprop((bigSep Finset.univ fun p : Dev nD × IxC => cellInv ER (sched (F := F) m) (K p) (cellAt p))
    ∗ bigSep Finset.univ fun p : Dev nD × IxC => reached ER (cellAt p) 0)

/-- The records may be used again and again. -/
instance records_persistent : BI.Persistent (records (F := F) m K) := by unfold records; infer_instance

/-- One cell's invariant out of all of them. -/
theorem inv_at (p : Dev nD × IxC) :
    (bigSep Finset.univ fun p : Dev nD × IxC => (cellInv ER (sched (F := F) m) (K p) (cellAt p) : sProp 𝕄)) ⊢ cellInv ER (sched (F := F) m) (K p) (cellAt p) :=
  bigSep_elim (Finset.mem_univ p)
/-- One cell's open round out of all of them. -/
theorem reached_at (p : Dev nD × IxC) :
    (bigSep Finset.univ fun p : Dev nD × IxC => (reached ER (cellAt p) 0 : sProp 𝕄)) ⊢ reached ER (cellAt p) 0 :=
  bigSep_elim (Finset.mem_univ p)
/-- The records hold every cell's invariant. -/
theorem rec_inv (p : Dev nD × IxC) : records (F := F) m K ⊢ cellInv ER (sched (F := F) m) (K p) (cellAt p) := by
  unfold records
  iintro ⟨#HI, #HR⟩
  iapply (inv_at m K p); iexact HI
/-- The records hold that every cell's round 0 is open. -/
theorem rec_reached (p : Dev nD × IxC) : records (F := F) m K ⊢ reached ER (cellAt p) 0 := by
  unfold records
  iintro ⟨#HI, #HR⟩
  iapply (reached_at (F := F) p); iexact HR

/-- No loop of the kernel needs a variant. -/
abbrev 𝒱₀ : Variants := Variants.none

/-- The weakest precondition of a program on device `c`'s core. -/
abbrev WP (c : Dev nD) (p : Body F) (Q : PUnit → sProp 𝕄) : sProp 𝕄 :=
  wp frame (wpE (defs₀ (F := F)) 𝒱₀ (c : Thread nD τ) none) Set.univ p Q

/-! ## The signals -/

/-- What a signal uses: the slot it hands over, and the duty it pays. -/
def sigRes (c : Dev nD) (r : Fin 31) : sProp 𝕄 := iprop((∃ f, accPts c r.rev f) ∗ dutyTok ER (barCell (up c r)) 0 r.rev)

/-- One signal, to the device `n` at offset `r`. -/
theorem signal_one (c n : Dev nD) (r : Fin 31) (hn : n = up c r) (O : CellTallies nD τ sig Unit) (W : Waits sig Unit)
    {k : PUnit → Body F} {Q : PUnit → sProp 𝕄} :
    iprop(records m K ∗ sigRes c r ∗ owes (c : Thread nD τ) (O + tallyAt (barCell (up c r)) () 1) W)
      ⊢ iprop((owes (c : Thread nD τ) O W -∗ WP c (k ⟨⟩) Q)
          -∗ WP c (.op (.semSignal (Dev.tc n : Thread nD τ) barS 1) k) Q) := by
  subst hn
  unfold sigRes
  iintro ⟨#HR, ⟨Hs, Ht⟩, HO⟩
  iapply (Rounds.wp_signal 𝒱₀ ER (sched (F := F) m) (c : Thread nD τ) none (dst := (up c r : Thread nD τ)) (κ := K (up c r, .inl ()))
      (d := r.rev) (by rw [duties_bar]; exact Finset.mem_univ _) (amount_bar m (up c r) r.rev) () O rfl)
  isplitr; · iapply (rec_inv m K (up c r, .inl ())); iexact HR
  isplitl [HO]; · iexact HO
  isplitl [Ht]; · iexact Ht
  isplitl [Hs]
  · rw [payload_bar]; unfold barPay; rw [up_rev]
    isplitl [Hs]; · iexact Hs
    iapply (rec_reached m K (c, .inr (.inr r.rev))); iexact HR
  · iapply (rec_reached m K (up c r, .inl ())); iexact HR

/-- The signals of a list of offsets. -/
theorem signals (c : Dev nD) (W : Waits sig Unit) (k : Body F) (Q : PUnit → sProp 𝕄) : ∀ l : List (Fin 31),
    iprop(records m K ∗ all (sigRes (F := F) c) l ∗ owes (c : Thread nD τ) (oweB c l) W
        ∗ (owes (c : Thread nD τ) (oweS c offs) W -∗ WP c k Q)) ⊢ WP c (each (sigOp c) k l) Q
  | [] => by
    show _ ⊢ WP c k Q
    iintro ⟨#HR, -, HO, Hk⟩
    iapply Hk; iexact HO
  | r :: l => by
    show _ ⊢ WP c (.op (.semSignal (Dev.tc ⟨sigTo r c, sigTo_lt r c⟩ : Thread nD τ) barS 1) fun _ => each (sigOp c) k l) Q
    rw [all, oweB]
    iintro ⟨#HR, ⟨Hr, Hl⟩, HO, Hk⟩
    iapply (signal_one m K c _ r (sigTo_up c r) (oweB c l) W) $$ [Hr HO]
    · isplitr; · iexact HR
      isplitl [Hr] <;> iassumption
    iintro HO
    iapply (signals c W k Q l)
    isplitr; · iexact HR
    isplitl [Hl]; · iexact Hl
    isplitl [HO] <;> iassumption

/-! ## The transfers -/

/-- What a transfer uses: the slot it reads, the slot it writes, and the two duties it pays. -/
def sendRes (c : Dev nD) (r : Fin 31) : sProp 𝕄 :=
  iprop(partPts c r (partV m c) ∗ (∃ f, accPts (up c r) r f) ∗ dutyTok ER (sendCell c r) 0 0 ∗ dutyTok ER (recvCell (up c r) r) 0 0)

/-- Every slot has the same credit. -/
theorem slot_credit (r : Fin 31) : (dstSlot r).view.amount (.dma (recvS r)) = N := rfl

/-- One transfer, to the device `n` at offset `r`. -/
theorem send_one (c n : Dev nD) (r : Fin 31) (hn : n = up c r) (O : CellTallies nD τ sig Unit) (W : Waits sig Unit)
    {hsc : (dstSlot r : Memref sig (Dev.tc n : Thread nD τ).2.kind .vmem S8x256 .bf16).view.ref.isScScratch = false}
    {hsrc : (srcSlot c r).view.WordExact} {hdst : (dstSlot r).view.WordExact}
    {hsem : DmaTarget.Typed .vmem (.dma (recvS r)) (.remote (Dev.tc n : Thread nD τ) (dstSlot r) (.dma (sendS r)) hsc)}
    {k : PUnit → Body F} {Q : PUnit → sProp 𝕄} :
    iprop(records m K ∗ sendRes m c r ∗ owes (c : Thread nD τ) (O + tallyAt (recvCell (up c r) r) () N) W)
      ⊢ iprop(((cred (tallyAt (sendCell c r) () N) ∗ owes (c : Thread nD τ) O W) -∗ WP c (k ⟨⟩) Q)
          -∗ WP c (.op (.enqueueDma (srcSlot c r) (.remote (Dev.tc n : Thread nD τ) (dstSlot r) (.dma (sendS r)) hsc) (.dma (recvS r)) hsrc hdst hsem) k) Q) := by
  subst hn
  unfold sendRes
  iintro ⟨#HR, ⟨Hp, ⟨%fd, Ha⟩, Ht1, Ht2⟩, HO⟩
  iapply (Rounds.wp_send_pointsTo 𝒱₀ ER (sched (F := F) m) (c : Thread nD τ) none (κ₁ := K (c, .inr (.inl r))) (κ₂ := K (up c r, .inr (.inr r)))
    (c' := (up c r : Thread nD τ)) (src := srcSlot c r) (dst := dstSlot r)
    (r₁ := 0) (r₂ := 0) (d₁ := 0) (d₂ := 0) (fs := partV m c) (fd := fd)
    (by rw [duties_send]; exact Finset.mem_singleton_self _) (by rw [duties_recv]; exact Finset.mem_singleton_self _)
    () () N (slot_credit r) (amount_send m c r 0) (amount_recv m (up c r) r 0) O rfl (W := W)
    (by rw [payload_send]; exact BI.Entails.refl _)
    (by rw [payload_recv]; unfold accPts; exact Entails.of_eq (pointsTo_congr (landed m c r fd))))
  isplitr; · iapply (rec_inv m K (c, .inr (.inl r))); iexact HR
  isplitr; · iapply (rec_inv m K (up c r, .inr (.inr r))); iexact HR
  isplitl [Hp]; · unfold partPts; iexact Hp
  isplitl [Ha]; · unfold accPts; iexact Ha
  isplitl [HO]; · iexact HO
  isplitl [Ht1]; · iexact Ht1
  isplitr; · iapply (rec_reached m K (c, .inr (.inl r))); iexact HR
  isplitl [Ht2]; · iexact Ht2
  iapply (rec_reached m K (up c r, .inr (.inr r))); iexact HR

/-- The transfers of a list of offsets; each leaves the credit to wait for its source with. -/
theorem sends (c : Dev nD) (W : Waits sig Unit) (k : Body F) (Q : PUnit → sProp 𝕄) : ∀ l : List (Fin 31),
    iprop(records m K ∗ all (sendRes m c) l ∗ owes (c : Thread nD τ) (oweS c l) W
        ∗ ((all (fun r => cred (tallyAt (sendCell c r) () N)) l ∗ owes (c : Thread nD τ) 0 W) -∗ WP c k Q)) ⊢ WP c (each (sendOp c) k l) Q
  | [] => by
    show _ ⊢ WP c k Q
    iintro ⟨#HR, -, HO, Hk⟩
    iapply Hk
    isplitr; · rw [all]; iempintro
    iexact HO
  | r :: l => by
    show _ ⊢ WP c (.op (.enqueueDma (srcSlot c r) (.remote (Dev.tc (⟨sendTo r c, sendTo_lt r c⟩ : Dev nD)) (dstSlot r) (.dma (sendS r))) (.dma (recvS r))
      (exact_src c r) (exact_dst r) ⟨⟨rfl, Or.inl rfl⟩, trivial⟩) fun _ => each (sendOp c) k l) Q
    rw [all, oweS, all]
    iintro ⟨#HR, ⟨Hr, Hl⟩, HO, Hk⟩
    iapply (send_one m K c _ r (sendTo_up c r) (oweS c l) W) $$ [Hr HO]
    · isplitr; · iexact HR
      isplitl [Hr] <;> iassumption
    iintro ⟨Hc, HO⟩
    iapply (sends c W k Q l)
    isplitr; · iexact HR
    isplitl [Hl]; · iexact Hl
    isplitl [HO]; · iexact HO
    iintro ⟨Hcl, HO⟩
    iapply Hk
    isplitr [HO]
    · isplitl [Hc] <;> iassumption
    · iexact HO

/-! ## The waits -/

/-- What a wait for a landing uses. -/
def landRes (c : Dev nD) (r : Fin 31) : sProp 𝕄 := iprop(cred (tallyAt (recvCell c r) () N) ∗ atPos ER (recvCell c r) 0 ∅ 0)
/-- What a wait for a landing leaves: the slot filled, and the cell closed. -/
def landGot (c : Dev nD) (r : Fin 31) : sProp 𝕄 := iprop(accPts c r (accV m c) ∗ semVal (recvCell c r) 0)
/-- What a wait for a departure uses. -/
def leaveRes (c : Dev nD) (r : Fin 31) : sProp 𝕄 := iprop(cred (tallyAt (sendCell c r) () N) ∗ atPos ER (sendCell c r) 0 ∅ 0)
/-- What a wait for a departure leaves: the slot sent from, and the cell closed. -/
def leaveGot (c : Dev nD) (r : Fin 31) : sProp 𝕄 := iprop(partPts c r (partV m c) ∗ semVal (sendCell c r) 0)

/-- The waits for what lands at a list of offsets. -/
theorem lands (c : Dev nD) (k : Body F) (Q : PUnit → sProp 𝕄) : ∀ (l : List (Fin 31)) (W : Waits sig Unit),
    iprop(records m K ∗ all (landRes (F := F) c) l ∗ owes (c : Thread nD τ) 0 W
        ∗ ((all (landGot m c) l ∗ ∃ W, owes (c : Thread nD τ) 0 W) -∗ WP c k Q)) ⊢ WP c (each (landOp c) k l) Q
  | [], W => by
    show _ ⊢ WP c k Q
    iintro ⟨#HR, -, HO, Hk⟩
    iapply Hk
    isplitr; · rw [all]; iempintro
    iexists W; iexact HO
  | r :: l, W => by
    show _ ⊢ WP c (.op (.waitDma2 (recvS r) (srcSlot c r) (dstSlot r) (exact_src c r) (exact_dst r)) fun _ => each (landOp c) k l) Q
    rw [all, all]
    iintro ⟨#HR, ⟨Hr, Hl⟩, HO, Hk⟩
    unfold landRes
    icases Hr with ⟨Hc, Hat⟩
    iapply (Rounds.wp_wait_rest_token 𝒱₀ ER (sched (F := F) m) (c : Thread nD τ) none (κ := K (c, .inr (.inr r)))
        (wpE_waitDma2_eq 𝒱₀ (c : Thread nD τ) none Set.univ) (Set.mem_univ _) () (O := 0) (W := W) (R := 0) (m := 0) (T := ∅)
        (by rw [Nat.zero_add, expect_recv])) $$ [Hc HO Hat]
    · isplitr; · iapply (rec_inv m K (c, .inr (.inr r))); iexact HR
      isplitl [Hc]; · iexact Hc
      isplitl [HO]; · iexact HO
      isplitr; · rw [MayWait_zero]; iempintro
      iexact Hat
    iintro ⟨HO, Hat, -, Hpay⟩
    ihave Hpay := (Entails.of_eq (rest_recv m c r)) $$ Hpay
    imod (Rounds.cell_close ER (sched (F := F) m) (Set.mem_univ (K (c, .inr (.inr r)))) (fun h => h) (R := 0 + 1) (duties_later m (recvCell c r))) $$ [Hat] with Hz
    · isplitr; · iapply (rec_inv m K (c, .inr (.inr r))); iexact HR
      iexact Hat
    iapply (lands c k Q l _)
    isplitr; · iexact HR
    isplitl [Hl]; · unfold landRes; iexact Hl
    isplitl [HO]; · iexact HO
    iintro ⟨Hgl, HO⟩
    iapply Hk
    isplitr [HO]
    · unfold landGot
      isplitr [Hgl]
      · isplitl [Hpay] <;> iassumption
      · iexact Hgl
    · iexact HO

/-- The waits for what leaves at a list of offsets. -/
theorem leaves (c : Dev nD) (k : Body F) (Q : PUnit → sProp 𝕄) : ∀ (l : List (Fin 31)) (W : Waits sig Unit),
    iprop(records m K ∗ all (leaveRes (F := F) c) l ∗ owes (c : Thread nD τ) 0 W
        ∗ ((all (leaveGot m c) l ∗ ∃ W, owes (c : Thread nD τ) 0 W) -∗ WP c k Q)) ⊢ WP c (each (leaveOp c) k l) Q
  | [], W => by
    show _ ⊢ WP c k Q
    iintro ⟨#HR, -, HO, Hk⟩
    iapply Hk
    isplitr; · rw [all]; iempintro
    iexists W; iexact HO
  | r :: l, W => by
    show _ ⊢ WP c (.op (.waitDma2 (sendS r) (dstSlot r) (srcSlot c r) (exact_dst r) (exact_src c r)) fun _ => each (leaveOp c) k l) Q
    rw [all, all]
    iintro ⟨#HR, ⟨Hr, Hl⟩, HO, Hk⟩
    unfold leaveRes
    icases Hr with ⟨Hc, Hat⟩
    iapply (Rounds.wp_wait_rest_token 𝒱₀ ER (sched (F := F) m) (c : Thread nD τ) none (κ := K (c, .inr (.inl r)))
        (wpE_waitDma2_eq 𝒱₀ (c : Thread nD τ) none Set.univ) (Set.mem_univ _) () (O := 0) (W := W) (R := 0) (m := 0) (T := ∅)
        (by rw [Nat.zero_add, expect_send])) $$ [Hc HO Hat]
    · isplitr; · iapply (rec_inv m K (c, .inr (.inl r))); iexact HR
      isplitl [Hc]; · iexact Hc
      isplitl [HO]; · iexact HO
      isplitr; · rw [MayWait_zero]; iempintro
      iexact Hat
    iintro ⟨HO, Hat, -, Hpay⟩
    ihave Hpay := (Entails.of_eq (rest_send m c r)) $$ Hpay
    imod (Rounds.cell_close ER (sched (F := F) m) (Set.mem_univ (K (c, .inr (.inl r)))) (fun h => h) (R := 0 + 1) (duties_later m (sendCell c r))) $$ [Hat] with Hz
    · isplitr; · iapply (rec_inv m K (c, .inr (.inl r))); iexact HR
      iexact Hat
    iapply (leaves c k Q l _)
    isplitr; · iexact HR
    isplitl [Hl]; · unfold leaveRes; iexact Hl
    isplitl [HO]; · iexact HO
    iintro ⟨Hgl, HO⟩
    iapply Hk
    isplitr [HO]
    · unfold leaveGot
      isplitr [Hgl]
      · isplitl [Hpay] <;> iassumption
      · iexact Hgl
    · iexact HO

end Cert.KernelIdealRun

end
-- ==== Proof.KernelIdeal.Body.lean ====
/-
# The body

What a device starts from, what it ends with, and the body executed from the one to the other.
-/
module

public import proofs.«01_k».proof.Proof.KernelIdeal.Stretch
public import Idealize.ShloMosaic.Lib.Pipeline.Value

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × IxC → ℕ)

/-! ## Families over all the offsets -/

/-- A family of pairs is a pair of families. -/
theorem all_sep (Φ Ψ : Fin 31 → sProp 𝕄) : all (fun r => iprop(Φ r ∗ Ψ r)) offs = iprop(all Φ offs ∗ all Ψ offs) := by
  rw [all_offs, all_offs, all_offs, bigSep_sep']

/-- A slot with known contents is a slot with some contents. -/
theorem acc_some (c : Dev nD) (r : Fin 31) (f : Buf (Elt F) ((c : Thread nD τ).loc cc0_scratch1)) : (accPts c r f : sProp 𝕄) ⊢ iprop(∃ f, accPts c r f) := by
  iintro H; iexists f; iexact H

/-- The slots a device hands over, in the order of its signals. -/
theorem acc_hand (c : Dev nD) (f : Buf (Elt F) ((c : Thread nD τ).loc cc0_scratch1)) :
    all (fun r => (accPts c r f : sProp 𝕄)) offs ⊢ all (fun r => iprop(∃ f, accPts c r.rev f)) offs := by
  rw [all_offs, all_offs, bigSep_univ_equiv Fin.revPerm (fun r => (accPts c r f : sProp 𝕄))]
  exact bigSep_mono fun r _ => acc_some c r.rev f

/-! ## What the body starts from and ends with -/

/-- The exchange's state as device `c` starts: its positions, and the tokens of the duties it pays. -/
def linear (c : Dev nD) : sProp 𝕄 :=
  iprop(atPos ER (barCell c) 0 ∅ 0 ∗ all (fun r => atPos ER (sendCell c r) 0 ∅ 0) offs ∗ all (fun r => atPos ER (recvCell c r) 0 ∅ 0) offs
    ∗ all (fun r => dutyTok ER (barCell (up c r)) 0 r.rev) offs ∗ all (fun r => dutyTok ER (sendCell c r) 0 0) offs
    ∗ all (fun r => dutyTok ER (recvCell (up c r) r) 0 0) offs)

/-- The credit of its waits, and the levels. -/
def credit (c : Dev nD) : sProp 𝕄 :=
  iprop(cred (tallyAt (barCell c) () 31) ∗ all (fun r => cred (tallyAt (recvCell c r) () N)) offs ∗ levAts L lv)

/-- The two semaphores the kernel is given and does not use. -/
def idleS : Bool → SemLoc sig
  | false => .dma (5 : Fin 69) | true => .dma (37 : Fin 69)
/-- Their counters, at zero. -/
def idle (c : Dev nD) : sProp 𝕄 := bigSep Finset.univ fun b : Bool => semVal ((c : Thread nD τ), idleS b) 0

/-- The whole partial output. -/
def part0 (c : Dev nD) (f : Buf (Elt F) ((c : Thread nD τ).loc cc0_scratch0)) : sProp 𝕄 := (c : Thread nD τ).loc cc0_scratch0 ↦{fullShare} f
/-- The whole gathering buffer. -/
def acc0 (c : Dev nD) (f : Buf (Elt F) ((c : Thread nD τ).loc cc0_scratch1)) : sProp 𝕄 := (c : Thread nD τ).loc cc0_scratch1 ↦{fullShare} f
/-- The two scratch buffers, with any contents. -/
def scratch (c : Dev nD) : sProp 𝕄 := iprop((∃ f, part0 (F := F) c f) ∗ (∃ f, acc0 (F := F) c f))

/-- What a device starts its body with, its operands aside. -/
def Φ₀ (c : Dev nD) : sProp 𝕄 := iprop((∃ K, records m K ∗ linear c) ∗ credit c ∗ idle c ∗ scratch c)
/-- At the end every cell of the device is closed, its counter at zero. -/
def Φ₁ (c : Dev nD) : sProp 𝕄 :=
  iprop(scratch (F := F) c ∗ idle c ∗ all (fun r => semVal (sendCell c r) 0) offs ∗ all (fun r => semVal (recvCell c r) 0) offs ∗ semVal (barCell c) 0)

/-- The pipeline's data: the arrays at launch, what the body leaves in each staging buffer, and what is held and owed around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rwin m c
    | ⟨2, _⟩ => ixin m c
    | ⟨3, _⟩ => ewin m c
    | ⟨4, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The grid has one step. -/
theorem cfg0_N : cfg0.N = 1 := by decide
/-- That step. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- To own a whole buffer's reference is to own its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reads and writes of whole buffers -/

/-- The zero offset of two dimensions. -/
theorem hz2 : (![0, 0] : Fin 2 → Nat) = fun _ => 0 := funext fun a => by fin_cases a <;> rfl
/-- The zero offset of three. -/
theorem hz3 : (![0, 0, 0] : Fin 3 → Nat) = fun _ => 0 := funext fun a => by fin_cases a <;> rfl
/-- A load of all the tokens reads the buffer. -/
theorem read_x (f : (cc0_stg0_0 : Ref sig .tc).ty.Contents (Elt F)) : xM.view.readAt (Elt F) rX.toLoadRect f = f :=
  Memref.readAt_unit_zero (Elt F) cc0_stg0_0 hz2 _ f
/-- A load of the whole router reads the buffer. -/
theorem read_rw (f : (cc0_stg1_0 : Ref sig .tc).ty.Contents (Elt F)) : rwM.view.readAt (Elt F) rR.toLoadRect f = f :=
  Memref.readAt_unit_zero (Elt F) cc0_stg1_0 hz2 _ f
/-- A load of the whole gathering buffer reads it. -/
theorem read_acc (f : (cc0_scratch1 : Ref sig .tc).ty.Contents (Elt F)) : accM.view.readAt (Elt F) rP.toLoadRect f = f :=
  Memref.readAt_unit_zero (Elt F) cc0_scratch1 hz3 _ f
/-- A store of the whole partial output leaves what is stored. -/
theorem write_part (f w : (cc0_scratch0 : Ref sig .tc).ty.Contents (Elt F)) :
    (partM.access rP : View sig .tc _ _ _).write (Elt F) f w Finset.univ = w :=
  Memref.write_access_unit_zero_univ (Elt F) cc0_scratch0 hz3 _ f w
/-- A store of the whole result leaves what is stored. -/
theorem write_out (f w : (cc0_stg4_0 : Ref sig .tc).ty.Contents (Elt F)) :
    (outM.access rO : View sig .tc _ _ _).write (Elt F) f w Finset.univ = w :=
  Memref.write_access_unit_zero_univ (Elt F) cc0_stg4_0 hz2 _ f w

/-- The device's own slot is not among those it sends. -/
theorem own_sub (c : Dev nD) : partM.view.setOn (rOwn c).set ⊆ Ring.restOf (partI c) := by
  intro i hi
  obtain ⟨x, hx, rfl⟩ := Finset.mem_map.mp hi
  exact own_part_rest c x ((slot_set c.isLt (own_off c) x).mp hx)
/-- A load of slot 0 stays off the slots that land. -/
theorem zero_sub (c : Dev nD) : accM.view.setOn rA0.set ⊆ Ring.restOf (accI c) := by
  intro i hi
  obtain ⟨x, hx, rfl⟩ := Finset.mem_map.mp hi
  exact (mem_acc_rest c x).mpr ((slot_set (by omega) rfl x).mp hx)
/-- A store into slot 0 stays off them too. -/
theorem zero_access (c : Dev nD) : (accM.access rA0 : View sig .tc _ _ _).setOn Finset.univ ⊆ Ring.restOf (accI c) := by
  intro i hi
  obtain ⟨x, hx, rfl⟩ := Finset.mem_map.mp hi
  exact (mem_acc_rest c _).mpr ((slot_set (by omega) rfl _).mp (by rw [← Rect.map_emb_univ]; exact Finset.mem_map_of_mem _ (Finset.mem_univ x)))

/-! ## The body, piece by piece from its end -/

/-- A whole staging buffer and what it holds. -/
abbrev stg (c : Dev nD) (b : Ref sig .tc) (X : b.ty.Contents (Elt F)) : sProp 𝕄 := ((c : Thread nD τ).loc b) ↦{fullShare} X

/-- A program that is done needs only what it promises. -/
theorem wp_done (c : Dev nD) (Q : PUnit → sProp 𝕄) : Q ⟨⟩ ⊢ WP c (pure ⟨⟩) Q := by
  show _ ⊢ wp frame (wpE (defs₀ (F := F)) 𝒱₀ (c : Thread nD τ) none) Set.univ (pure ⟨⟩) Q
  rw [Prog.pure_eq_ret, wp_ret]
  iintro H
  imodintro
  iexact H

/-- Slot 0 holds what is due in it when the own slot has been copied there. -/
theorem own_pts (c : Dev nD) (f : (cc0_scratch1 : Ref sig .tc).ty.Contents (Elt F)) :
    ((accM.access rA0 : View sig .tc _ _ _).loc (c : Thread nD τ) ↦[Ring.restOf (accI c)]{fullShare}
        ((accM.access rA0 : View sig .tc _ _ _).write (Elt F) f (k0_pay13 (partM.view.readAt (Elt F) (rOwn c).toLoadRect (partV m c))) Finset.univ) : sProp 𝕄)
      ⊢ accRest c (accV m c) := by
  unfold accRest
  exact Entails.of_eq (pointsTo_congr (own_written m c f))

/-- What the peers' signals bring: the slots to write. -/
theorem bar_all (c : Dev nD) : all (fun r => (barPay c r : sProp 𝕄)) offs
    = iprop(all (fun r => iprop(∃ f, accPts (F := F) (up c r) r f)) offs ∗ all (fun r => reached ER (recvCell (up c r) r) 0) offs) := by
  unfold barPay; rw [all_sep]

/-- What all the waits for landings leave: the slots filled, and the cells closed. -/
theorem land_all (c : Dev nD) : all (landGot m c) offs
    = iprop(all (fun r => accPts c r (accV m c)) offs ∗ all (fun r => semVal (recvCell c r) 0) offs) := by
  unfold landGot; rw [all_sep]
/-- What all the waits for departures leave: the slots sent from, and the cells closed. -/
theorem leave_all (c : Dev nD) : all (leaveGot m c) offs
    = iprop(all (fun r => partPts c r (partV m c)) offs ∗ all (fun r => semVal (sendCell c r) 0) offs) := by
  unfold leaveGot; rw [all_sep]

/-- The partial output as stored, cut into its slots. -/
theorem part_made (c : Dev nD) :
    ((partM.access rP : View sig .tc _ _ _).loc (c : Thread nD τ) ↦{fullShare}
        (partOf c (xin m c) (rwin m c) (ixM.view.readAt (Elt F) rI0.toLoadRect (ixin m c)) (ixM.view.readAt (Elt F) rI1.toLoadRect (ixin m c))
          (ewM.view.readAt (Elt F) rW0.toLoadRect (ewin m c)) (ewM.view.readAt (Elt F) rW1.toLoadRect (ewin m c))) : sProp 𝕄)
      ⊢ iprop(all (fun r => partPts c r (partV m c)) offs ∗ partRest c (partV m c)) :=
  (part_cut c (partV m c)).1

/-- From where everything has landed: the sum stored, and the waits for what leaves. -/
theorem tail_sound (c : Dev nD) (W : Waits sig Unit) (g : Buf (Elt F) ((c : Thread nD τ).loc cc0_stg4_0)) (Q : PUnit → sProp 𝕄) :
    iprop(records m K ∗ acc0 c (accV m c) ∗ stg c cc0_stg4_0 g ∗ all (leaveRes (F := F) c) offs ∗ owes (c : Thread nD τ) 0 W
        ∗ ((acc0 c (accV m c) ∗ stg c cc0_stg4_0 (outV m c) ∗ all (leaveGot m c) offs ∗ ∃ W, owes (c : Thread nD τ) 0 W) -∗ Q ⟨⟩))
      ⊢ WP c (tailAt c) Q := by
  unfold tailAt
  simp only [Prog.lift, Prog.bind_op, Prog.bind_ret]
  unfold acc0
  iintro ⟨#HR, Ha, Hout, Hl, HO, Hk⟩
  iapply (wp_load 𝒱₀ (c : Thread nD τ) none Set.univ (m := accM) (Finset.subset_univ _)) $$ Ha; iintro Ha
  rw [read_acc]
  iapply (wp_load 𝒱₀ (c : Thread nD τ) none Set.univ (m := outM) (Finset.subset_univ _)) $$ Hout; iintro Hout
  iapply (wp_store 𝒱₀ (c : Thread nD τ) none Set.univ (m := outM) (r := rO) (Mk := Finset.univ) (Finset.subset_univ _)) $$ Hout; iintro Hout
  rw [write_out]
  iapply (leaves m K c _ Q offs W)
  isplitr; · iexact HR
  isplitl [Hl]; · iexact Hl
  isplitl [HO]; · iexact HO
  iintro ⟨Hg, HO⟩
  iapply (wp_done c Q)
  iapply Hk
  isplitl [Ha]; · iexact Ha
  isplitl [Hout]; · unfold outV; iexact Hout
  isplitl [Hg]; · iexact Hg
  iexact HO

/-- From where the transfers are started: the own slot copied, the waits for what lands, and the rest. -/
theorem mid_sound (c : Dev nD) (W : Waits sig Unit) (f1 : Buf (Elt F) ((c : Thread nD τ).loc cc0_scratch1))
    (g : Buf (Elt F) ((c : Thread nD τ).loc cc0_stg4_0)) (Q : PUnit → sProp 𝕄) :
    iprop(records m K ∗ partRest c (partV m c) ∗ accRest c f1 ∗ stg c cc0_stg4_0 g ∗ all (landRes (F := F) c) offs ∗ all (leaveRes (F := F) c) offs
        ∗ owes (c : Thread nD τ) 0 W
        ∗ ((scratch (F := F) c ∗ stg c cc0_stg4_0 (outV m c) ∗ all (fun r => semVal (sendCell c r) 0) offs ∗ all (fun r => semVal (recvCell c r) 0) offs
            ∗ ∃ W, owes (c : Thread nD τ) 0 W) -∗ Q ⟨⟩))
      ⊢ WP c (midAt c) Q := by
  unfold midAt
  simp only [Prog.lift, Prog.bind_op, Prog.bind_ret]
  unfold partRest accRest
  iintro ⟨#HR, Hp, Ha, Hout, Hland, Hleave, HO, Hk⟩
  iapply (wp_load 𝒱₀ (c : Thread nD τ) none Set.univ (m := partM) (own_sub c)) $$ Hp; iintro Hp
  iapply (wp_load 𝒱₀ (c : Thread nD τ) none Set.univ (m := accM) (zero_sub c)) $$ Ha; iintro Ha
  iapply (wp_store 𝒱₀ (c : Thread nD τ) none Set.univ (m := accM) (r := rA0) (Mk := Finset.univ) (zero_access c)) $$ Ha; iintro Ha
  ihave Ha := (own_pts m c f1) $$ Ha
  iapply (lands m K c _ Q offs W)
  isplitr; · iexact HR
  isplitl [Hland]; · iexact Hland
  isplitl [HO]; · iexact HO
  iintro ⟨Hgot, ⟨%W', HO⟩⟩
  ihave Hgot := (Entails.of_eq (land_all m c)) $$ Hgot
  icases Hgot with ⟨Hslots, Hvals⟩
  ihave Hacc := (acc_cut c (accV m c)).2 $$ [Hslots Ha]
  · isplitl [Hslots] <;> iassumption
  iapply (tail_sound m K c W' g Q)
  isplitr; · iexact HR
  isplitl [Hacc]; · unfold acc0; iexact Hacc
  isplitl [Hout]; · iexact Hout
  isplitl [Hleave]; · iexact Hleave
  isplitl [HO]; · iexact HO
  iintro ⟨Hacc, Hout, Hgot, HO⟩
  ihave Hgot := (Entails.of_eq (leave_all m c)) $$ Hgot
  icases Hgot with ⟨Hslots, Hvals'⟩
  ihave Hpart := (part_cut c (partV m c)).2 $$ [Hslots Hp]
  · isplitl [Hslots]; · iexact Hslots
    unfold partRest; iexact Hp
  iapply Hk
  isplitl [Hacc Hpart]
  · unfold scratch
    isplitl [Hpart]
    · iexists (partV m c); unfold part0; iexact Hpart
    · iexists (accV m c); iexact Hacc
  isplitl [Hout]; · iexact Hout
  isplitl [Hvals']; · iexact Hvals'
  isplitl [Hvals]; · iexact Hvals
  iexact HO

/-- The operands in their staging buffers. -/
def operands (c : Dev nD) : sProp 𝕄 :=
  iprop(stg c cc0_stg0_0 (xin m c) ∗ stg c cc0_stg1_0 (rwin m c) ∗ stg c cc0_stg2_0 (ixin m c) ∗ stg c cc0_stg3_0 (ewin m c))

/-- From where the signals are sent: the partial output, the wait for every peer, the transfers, and the rest. -/
theorem comp_sound (c : Dev nD) (W : Waits sig Unit) (f0 : Buf (Elt F) ((c : Thread nD τ).loc cc0_scratch0)) (f1 : Buf (Elt F) ((c : Thread nD τ).loc cc0_scratch1))
    (g : Buf (Elt F) ((c : Thread nD τ).loc cc0_stg4_0)) (Q : PUnit → sProp 𝕄) :
    iprop(records m K ∗ operands m c ∗ part0 c f0 ∗ accRest c f1 ∗ stg c cc0_stg4_0 g ∗ credit (F := F) c
        ∗ atPos ER (barCell c) 0 ∅ 0 ∗ all (fun r => atPos ER (sendCell c r) 0 ∅ 0) offs ∗ all (fun r => atPos ER (recvCell c r) 0 ∅ 0) offs
        ∗ all (fun r => dutyTok ER (sendCell c r) 0 0) offs ∗ all (fun r => dutyTok ER (recvCell (up c r) r) 0 0) offs
        ∗ owes (c : Thread nD τ) (oweS c offs) W
        ∗ ((operands m c ∗ scratch (F := F) c ∗ stg c cc0_stg4_0 (outV m c) ∗ all (fun r => semVal (sendCell c r) 0) offs ∗ all (fun r => semVal (recvCell c r) 0) offs
            ∗ semVal (barCell c) 0 ∗ ∃ W, owes (c : Thread nD τ) 0 W) -∗ Q ⟨⟩))
      ⊢ WP c (compAt c) Q := by
  unfold compAt
  simp only [semWaitWord, Prog.lift, Prog.bind_op, Prog.bind_ret]
  unfold operands part0 credit
  iintro ⟨#HR, ⟨Hx, Hrw, Hix, Hew⟩, Hp, Ha, Hout, ⟨HcB, HcV, #Hlev⟩, HatB, HatS, HatV, HtS, HtV, HO, Hk⟩
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load 𝒱₀ (c : Thread nD τ) none Set.univ (m := ixM) (Finset.subset_univ _)) $$ Hix; iintro Hix
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := partM) (Finset.subset_univ _)) $$ Hp; iintro Hp
  iapply (wp_store 𝒱₀ (c : Thread nD τ) none Set.univ (m := partM) (r := rP) (Mk := Finset.univ) (Finset.subset_univ _)) $$ Hp; iintro Hp
  rw [write_part, read_x, read_rw]
  -- the wait for every peer
  iapply (Rounds.wp_wait_rest_token 𝒱₀ ER (sched (F := F) m) (c : Thread nD τ) none (κ := K (c, .inl ()))
      (wpE_semWait_eq 𝒱₀ (c : Thread nD τ) none Set.univ) (Set.mem_univ _) () (O := oweS c offs) (W := W) (R := 0) (m := 0) (T := ∅)
      (by rw [expect_bar]; decide)) $$ [HcB HO HatB]
  · isplitr; · iapply (rec_inv m K (c, .inl ())); iexact HR
    isplitl [HcB]; · iexact HcB
    isplitl [HO]; · iexact HO
    isplitr; · iapply (mayWait_bar (F := F) c); iexact Hlev
    iexact HatB
  iintro ⟨HO, HatB, -, Hpay⟩
  ihave Hpay := (Entails.of_eq (((rest_bar m c).trans (all_offs _).symm).trans (bar_all c))) $$ Hpay
  icases Hpay with ⟨Hdst, -⟩
  imod (Rounds.cell_close ER (sched (F := F) m) (Set.mem_univ (K (c, .inl ()))) (fun h => h) (R := 0 + 1) (duties_later m (barCell c))) $$ [HatB] with HzB
  · isplitr; · iapply (rec_inv m K (c, .inl ())); iexact HR
    iexact HatB
  -- the transfers
  ihave Hp := (part_made m c) $$ Hp
  icases Hp with ⟨Hsrc, Hp⟩
  iapply (sends m K c _ _ Q offs)
  isplitr; · iexact HR
  isplitl [Hsrc Hdst HtS HtV]
  · unfold sendRes
    iapply (Entails.of_eq ((all_sep (fun r => partPts c r (partV m c)) (fun r => iprop((∃ f, accPts (up c r) r f) ∗ dutyTok ER (sendCell c r) 0 0 ∗ dutyTok ER (recvCell (up c r) r) 0 0))).trans
      (by rw [all_sep (fun r => iprop(∃ f, accPts (F := F) (up c r) r f)) (fun r => iprop(dutyTok ER (sendCell c r) 0 0 ∗ dutyTok ER (recvCell (up c r) r) 0 0)), all_sep])).symm)
    isplitl [Hsrc]; · iexact Hsrc
    isplitl [Hdst]; · iexact Hdst
    isplitl [HtS] <;> iassumption
  isplitl [HO]; · iexact HO
  iintro ⟨HcS, HO⟩
  iapply (mid_sound m K c _ f1 g Q)
  isplitr; · iexact HR
  isplitl [Hp]; · iexact Hp
  isplitl [Ha]; · iexact Ha
  isplitl [Hout]; · iexact Hout
  isplitl [HcV HatV]
  · unfold landRes
    iapply (Entails.of_eq (all_sep (fun r => cred (tallyAt (recvCell c r) () N)) (fun r => atPos ER (recvCell c r) 0 ∅ 0)).symm)
    isplitl [HcV] <;> iassumption
  isplitl [HcS HatS]
  · unfold leaveRes
    iapply (Entails.of_eq (all_sep (fun r => cred (tallyAt (sendCell c r) () N)) (fun r => atPos ER (sendCell c r) 0 ∅ 0)).symm)
    isplitl [HcS] <;> iassumption
  isplitl [HO]; · iexact HO
  iintro ⟨Hscr, Hout, HvS, HvV, HO⟩
  iapply Hk
  isplitl [Hx Hrw Hix Hew]
  · isplitl [Hx]; · iexact Hx
    isplitl [Hrw]; · iexact Hrw
    isplitl [Hix] <;> iassumption
  isplitl [Hscr]; · iexact Hscr
  isplitl [Hout]; · iexact Hout
  isplitl [HvS]; · iexact HvS
  isplitl [HvV]; · iexact HvV
  isplitl [HzB] <;> iassumption

end Cert.KernelIdealRun

end
-- ==== Proof.KernelIdeal.Sound.lean ====
/-
# The body's obligation

The body at the launch's own statement of what it is given and what it owes back.
-/
module

public import proofs.«01_k».proof.Proof.KernelIdeal.Body

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × IxC → ℕ)

/-- What a device starts its body with, written out. -/
theorem Φ₀_at (c : Dev nD) : Φ₀ (F := F) m c = iprop((∃ K, records m K ∗ linear c) ∗ credit c ∗ idle c ∗ scratch c) := rfl

/-- The body from the whole of its resources to the whole of what it leaves. -/
theorem body_sound (c : Dev nD) (W : Waits sig Unit) (g : Buf (Elt F) ((c : Thread nD τ).loc cc0_stg4_0)) (Q : PUnit → sProp 𝕄) :
    iprop(Φ₀ m c ∗ operands m c ∗ stg c cc0_stg4_0 g ∗ owes (c : Thread nD τ) (O₀ c) W
        ∗ ((Φ₁ (F := F) c ∗ operands m c ∗ stg c cc0_stg4_0 (outV m c) ∗ ∃ W, owes (c : Thread nD τ) 0 W) -∗ Q ⟨⟩))
      ⊢ WP c theBody Q := by
  rw [body_eq]
  show _ ⊢ wp frame (wpE (defs₀ (F := F)) 𝒱₀ (c : Thread nD τ) none) Set.univ (Prog.lift .deviceId >>= fun d => each (sigOp d) (compAt d) offs) Q
  simp only [Prog.lift, Prog.bind_op, Prog.bind_ret, wp_deviceId]
  rw [Φ₀_at]
  unfold linear scratch part0 acc0 O₀
  iintro ⟨⟨⟨%K, #HR, HatB, HatS, HatV, HtB, HtS, HtV⟩, Hcr, Hidle, ⟨%f0, Hp⟩, ⟨%f1, Ha⟩⟩, Hop, Hout, HO, Hk⟩
  ihave Ha := (acc_cut c f1).1 $$ Ha
  icases Ha with ⟨Hslots, Hrest⟩
  ihave Hslots := (acc_hand c f1) $$ Hslots
  iapply (signals m K c W (compAt c) Q offs)
  isplitr; · iexact HR
  isplitl [Hslots HtB]
  · unfold sigRes
    iapply (Entails.of_eq (all_sep (fun r => iprop(∃ f, accPts (F := F) c r.rev f)) (fun r => dutyTok ER (barCell (up c r)) 0 r.rev)).symm)
    isplitl [Hslots] <;> iassumption
  isplitl [HO]; · iexact HO
  iintro HO
  iapply (comp_sound m K c W f0 f1 g Q)
  isplitr; · iexact HR
  isplitl [Hop]; · iexact Hop
  isplitl [Hp]; · unfold part0; iexact Hp
  isplitl [Hrest]; · iexact Hrest
  isplitl [Hout]; · iexact Hout
  isplitl [Hcr]; · iexact Hcr
  isplitl [HatB]; · iexact HatB
  isplitl [HatS]; · iexact HatS
  isplitl [HatV]; · iexact HatV
  isplitl [HtS]; · iexact HtS
  isplitl [HtV]; · iexact HtV
  isplitl [HO]; · iexact HO
  iintro ⟨Hop, Hscr, Hout, HvS, HvV, HvB, HO⟩
  iapply Hk
  isplitl [Hscr Hidle HvS HvV HvB]
  · unfold Φ₁ scratch part0 acc0
    isplitl [Hscr]; · iexact Hscr
    isplitl [Hidle]; · iexact Hidle
    isplitl [HvS]; · iexact HvS
    isplitl [HvV] <;> iassumption
  isplitl [Hop]; · iexact Hop
  isplitl [Hout]; · iexact Hout
  iexact HO

/-- A whole staging buffer holding given contents, as the launch states it. -/
abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the launch gives the body. -/
def bodyPre (c : Dev nD) : sProp 𝕄 :=
  iprop(Φ₀ m c ∗ (dats m ρ 0 c).owesAt () t₀.castSucc
    ∗ (∃ d, stgE c cc0_stg0_0 ((dats m ρ 0 c).before (0 : Fin 5) t₀ d))
    ∗ (∃ d, stgE c cc0_stg1_0 ((dats m ρ 0 c).before (1 : Fin 5) t₀ d))
    ∗ (∃ d, stgE c cc0_stg2_0 ((dats m ρ 0 c).before (2 : Fin 5) t₀ d))
    ∗ (∃ d, stgE c cc0_stg3_0 ((dats m ρ 0 c).before (3 : Fin 5) t₀ d))
    ∗ (∃ d, stgE c cc0_stg4_0 ((dats m ρ 0 c).before (4 : Fin 5) t₀ d)))

/-- What the body owes the launch. -/
def bodyPost (c : Dev nD) : sProp 𝕄 :=
  iprop(Φ₁ c ∗ (dats m ρ 0 c).owesAt () t₀.succ ∗ stgE c cc0_stg0_0 (xin m c) ∗ stgE c cc0_stg1_0 (rwin m c)
    ∗ stgE c cc0_stg2_0 (ixin m c) ∗ stgE c cc0_stg3_0 (ewin m c) ∗ stgE c cc0_stg4_0 (outV m c))

/-- At the body the tokens' staging buffer holds the tokens. -/
theorem before_0 (c : Dev nD) (d) : (dats m ρ 0 c).before (0 : Fin 5) t₀ d = xin m c := by
  unfold Dat.before; rw [if_pos (fetch0_0 t₀)]; rfl
/-- The router's does. -/
theorem before_1 (c : Dev nD) (d) : (dats m ρ 0 c).before (1 : Fin 5) t₀ d = rwin m c := by
  unfold Dat.before; rw [if_pos (fetch0_1 t₀)]; rfl
/-- That of the indices does. -/
theorem before_2 (c : Dev nD) (d) : (dats m ρ 0 c).before (2 : Fin 5) t₀ d = ixin m c := by
  unfold Dat.before; rw [if_pos (fetch0_2 t₀)]; rfl
/-- The experts' does. -/
theorem before_3 (c : Dev nD) (d) : (dats m ρ 0 c).before (3 : Fin 5) t₀ d = ewin m c := by
  unfold Dat.before; rw [if_pos (fetch0_3 t₀)]; rfl

/-- A staging buffer's elements, as the launch states them. -/
theorem stgE_intro (c : Dev nD) (b : Ref sig .tc) (X : b.ty.Contents (Elt F)) : (stg c b X : sProp 𝕄) ⊢ stgE c b X := by
  iintro H; iexists _; isplitr; · (ipureintro; rfl)
  iexact H

/-- The body takes what the launch gives to what it owes the launch. -/
theorem sound_body (c : Dev nD) : bodyPre m ρ c ⊢ WP c theBody (fun _ => bodyPost m ρ c) := by
  unfold bodyPre
  simp only [before_0, before_1, before_2, before_3]
  unfold Dat.owesAt Pipeline.owesWithin
  rw [show (dats m ρ 0 c).owed t₀.castSucc = O₀ c from rfl]
  iintro ⟨HΦ, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  subst h0 h1 h2 h3
  iapply (body_sound m c W g4 (fun _ => bodyPost m ρ c))
  isplitl [HΦ]; · iexact HΦ
  isplitl [H0 H1 H2 H3]
  · unfold operands
    isplitl [H0]; · iexact H0
    isplitl [H1]; · iexact H1
    isplitl [H2] <;> iassumption
  isplitl [H4]; · iexact H4
  isplitl [HO]; · iexact HO
  unfold operands
  iintro ⟨HΦ, ⟨H0, H1, H2, H3⟩, H4, ⟨%W', HO⟩⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [H0]; · iapply (stgE_intro c cc0_stg0_0 (xin m c)); iexact H0
  isplitl [H1]; · iapply (stgE_intro c cc0_stg1_0 (rwin m c)); iexact H1
  isplitl [H2]; · iapply (stgE_intro c cc0_stg2_0 (ixin m c)); iexact H2
  isplitl [H3]; · iapply (stgE_intro c cc0_stg3_0 (ewin m c)); iexact H3
  iapply (stgE_intro c cc0_stg4_0 (outV m c)); iexact H4

set_option maxRecDepth 65536 in
/-- The body on core `c`, as the launch asks for it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.KernelIdealRun

end
-- ==== Proof.KernelIdeal.Launch.lean ====
/-
# The launch

The exchange's state is minted for every device at once, dealt around the ring — each device gets the tokens of the duties
it pays — and each device is credited with what its peers owe its cells. Then the run of the whole kernel.
-/
module

public import proofs.«01_k».proof.Proof.KernelIdeal.Sound
public import Idealize.ShloMosaic.Lib.Pipeline.CollectiveSegs

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells -/

/-- The semaphores the kernel is given: the two it leaves alone, and those of its transfers. -/
def osem : Bool ⊕ (Fin 31 ⊕ Fin 31) → SemLoc sig
  | .inl b => idleS b | .inr x => semAt (.inr x)

/-- Different cells of a device have different semaphores. -/
theorem semAt_injective : Function.Injective semAt := by
  have hb : ∀ x, role (semAt x) = match x with | .inl _ => Role.bar | .inr (.inl r) => Role.send r | .inr (.inr r) => Role.recv r := by
    rintro (_ | _ | _)
    · exact role_bar
    · exact role_send _
    · exact role_recv _
  intro x y h
  have hr := (hb x).symm.trans ((congrArg role h).trans (hb y))
  rcases x with _ | r | r <;> rcases y with _ | r' | r' <;> first
    | rfl
    | (cases hr; rfl)
    | cases hr
/-- Different devices and cells are different cells. -/
theorem cellAt_injective : Function.Injective cellAt := by
  rintro ⟨c, k⟩ ⟨c', k'⟩ h
  have h1 : c = c' := congrArg (fun g : GSem nD τ sig => g.1.1) h
  subst h1
  have h2 : semAt k = semAt k' := congrArg Prod.snd h
  rw [semAt_injective h2]

/-- The kernel's semaphores are listed without repeats. -/
theorem osem_injective : Function.Injective osem := by
  have hv : ∀ k, osem k = .dma (match k with | .inl false => (5 : Fin 69) | .inl true => (37 : Fin 69) | .inr (.inl r) => sendS r | .inr (.inr r) => recvS r) := by
    rintro (b | r | r)
    · cases b <;> rfl
    · rfl
    · rfl
  intro x y h
  rw [hv, hv] at h
  have h' := congrArg Fin.val (SemLoc.dma.inj h)
  rcases x with _ | r | r <;> rcases y with _ | r' | r'
  · rename_i b b'; cases b <;> cases b' <;> first | rfl | exact absurd h' (by decide)
  · rename_i b; have e : _ = 6 + r'.val := h'.trans (sendS_val r'); have := r'.isLt; cases b <;> (simp at e; try omega)
  · rename_i b; have e : _ = 38 + r'.val := h'.trans (recvS_val r'); have := r'.isLt; cases b <;> (simp at e; try omega)
  · rename_i b; have e : 6 + r.val = _ := (sendS_val r).symm.trans h'; have := r.isLt; cases b <;> (simp at e; try omega)
  · have e : 6 + r.val = 6 + r'.val := (sendS_val r).symm.trans (h'.trans (sendS_val r')); rw [Fin.ext (show r.val = r'.val by omega)]
  · have e : 6 + r.val = 38 + r'.val := (sendS_val r).symm.trans (h'.trans (recvS_val r')); have := r.isLt; omega
  · rename_i b; have e : 38 + r.val = _ := (recvS_val r).symm.trans h'; have := r.isLt; cases b <;> (simp at e; try omega)
  · have e : 38 + r.val = 6 + r'.val := (recvS_val r).symm.trans (h'.trans (sendS_val r')); have := r'.isLt; omega
  · have e : 38 + r.val = 38 + r'.val := (recvS_val r).symm.trans (h'.trans (recvS_val r')); rw [Fin.ext (show r.val = r'.val by omega)]

/-- They are the kernel's own, and apart from the pipeline's. -/
theorem ownSemFacts : Pipeline.OwnSemFacts cfg0.spec osem where
  isScoped := by decide +kernel
  inj := osem_injective
  disj := by decide +kernel

/-- Every array is held whole. -/
theorem share_eq (c : Dev nD) (w : Fin cfg0.W) : (dats m ρ 0 c).share w = fullShare := by unfold Dat.share; split <;> rfl

/-! ## The state minted -/

/-- Every cell of the exchange. -/
def exCells : Finset (GSem nD τ sig) := Finset.univ.map ⟨cellAt, cellAt_injective⟩

/-- The duties of a device's own cells: its barrier's one per offset, and its send and receive cells' one each. -/
abbrev IxT : Type := Fin 31 ⊕ (Fin 31 ⊕ Fin 31)
/-- The cell a duty belongs to. -/
def cellOfDuty : IxT → IxC
  | .inl _ => .inl () | .inr x => .inr x
/-- Its number in that cell's round. -/
def dutyNo : IxT → Fin 31
  | .inl j => j | .inr _ => 0
/-- Its token. -/
def tokOf (p : Dev nD × IxT) : GSem nD τ sig × ℕ × Fin 31 := (cellAt (p.1, cellOfDuty p.2), 0, dutyNo p.2)
/-- Different duties have different tokens. -/
theorem tokOf_injective : Function.Injective tokOf := by
  rintro ⟨c, k⟩ ⟨c', k'⟩ h
  have h1 : (c, cellOfDuty k) = (c', cellOfDuty k') := cellAt_injective (congrArg Prod.fst h)
  have h2 : dutyNo k = dutyNo k' := congrArg (fun x : GSem nD τ sig × ℕ × Fin 31 => x.2.2) h
  have h3 : c = c' := congrArg Prod.fst h1
  have h4 : cellOfDuty k = cellOfDuty k' := congrArg Prod.snd h1
  subst h3
  rcases k with j | x <;> rcases k' with j' | x'
  · have : j = j' := h2
    rw [this]
  · cases h4
  · cases h4
  · have : x = x' := Sum.inr.inj h4
    rw [this]
/-- The token of every duty. -/
def exToks : Finset (GSem nD τ sig × ℕ × Fin 31) := Finset.univ.map ⟨tokOf, tokOf_injective⟩

/-- The pipeline's state and the exchange's, as first minted. -/
def u₀ : UU := (initOf (Pipeline.cells cfgs cellOf_inj) (Pipeline.launchToks cfgs cellOf_inj), initOf exCells exToks)

/-- The tokens of device `c`'s own cells. -/
def toks (c : Dev nD) : sProp 𝕄 :=
  iprop((bigSep Finset.univ fun r : Fin 31 => dutyTok ER (barCell c) 0 r) ∗ (bigSep Finset.univ fun r : Fin 31 => dutyTok ER (sendCell c r) 0 0)
    ∗ bigSep Finset.univ fun r : Fin 31 => dutyTok ER (recvCell c r) 0 0)

/-- What device `c` is dealt at first. -/
def G (c : Dev nD) : sProp 𝕄 :=
  iprop((bigSep Finset.univ fun k : IxC => roundState ER (sched (F := F) m) (cellAt (c, k)) 0)
    ∗ (bigSep Finset.univ fun k : IxC => iprop(atPos ER (cellAt (c, k)) 0 ∅ 0 ∗ reached ER (cellAt (c, k)) 0)) ∗ toks c)
/-- What it starts the kernel with. -/
def G' (c : Dev nD) : sProp 𝕄 := iprop((∃ K, records m K ∗ linear c) ∗ idle c)

/-- The exchange's state is dealt to the devices. -/
theorem fund_ex : BI.own (ER (initOf exCells exToks)) ⊢ (|==> bigSep Finset.univ (G (F := F) m) : sProp 𝕄) := by
  have hX (Φ : GSem nD τ sig → sProp 𝕄) : bigSep exCells Φ = bigSep Finset.univ fun c : Dev nD => bigSep Finset.univ fun k : IxC => Φ (cellAt (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (sched (F := F) m) exCells exToks) $$ HX with ⟨Hst, Hr, Hat, Htok⟩
  imodintro
  ihave Hst := (Entails.of_eq (hX fun g => roundState ER (sched (F := F) m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's semaphores at zero: the two left alone, those of departures, those of landings. -/
theorem ownSems0_eq (c : Dev nD) : (Pipeline.ownSems0 (Ix := Unit) (Name := ℕ) (U := UU) (Lvl := ℕ) (Val := Elt F) (τ := τ) osem c : sProp 𝕄)
    = iprop(idle c ∗ (bigSep Finset.univ fun r => semVal (sendCell c r) 0) ∗ bigSep Finset.univ fun r => semVal (recvCell c r) 0) := by
  unfold Pipeline.ownSems0 idle; rw [bigSep_univ_sum, bigSep_univ_sum]; rfl
/-- The one semaphore outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A family over a device's cells, kind by kind. -/
theorem cells_eq (Φ : IxC → sProp 𝕄) : bigSep Finset.univ Φ
    = iprop(Φ (.inl ()) ∗ (bigSep Finset.univ fun r : Fin 31 => Φ (.inr (.inl r))) ∗ bigSep Finset.univ fun r : Fin 31 => Φ (.inr (.inr r))) := by
  rw [bigSep_univ_sum, bigSep_univ_sum, Finset.univ_unique, bigSep_singleton]; rfl

/-- The counters of a device's cells at zero, and of the two semaphores left alone. -/
theorem sems_eq (c : Dev nD) :
    iprop(Pipeline.ownSems0 (Ix := Unit) (Name := ℕ) (U := UU) (Lvl := ℕ) (Val := Elt F) (τ := τ) osem c ∗ unscopedSems0 c)
      ⊢ iprop((bigSep Finset.univ fun k : IxC => semVal (cellAt (c, k)) 0) ∗ idle c : sProp 𝕄) := by
  rw [ownSems0_eq, unscopedSems0_eq, cells_eq]
  iintro ⟨⟨HI, HS, HV⟩, HB⟩
  isplitr [HI]
  · isplitl [HB]; · iexact HB
    isplitl [HS]; · iexact HS
    iexact HV
  · iexact HI

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (F := F) m) κ (cellAt (c, k))))
          ∗ (bigSep Finset.univ fun k => iprop(atPos ER (cellAt (c, k)) 0 ∅ 0 ∗ reached ER (cellAt (c, k)) 0)) ∗ toks c ∗ idle c) := by
  unfold G
  iintro ⟨Hos, Hus, Hst, Hat, Htok⟩
  ihave Hv := (sems_eq (F := F) c) $$ [Hos Hus]
  · isplitl [Hos] <;> iassumption
  icases Hv with ⟨Hv, Hi⟩
  imod (show iprop((bigSep Finset.univ fun k : IxC => semVal (cellAt (c, k)) 0) ∗ bigSep Finset.univ fun k : IxC => roundState ER (sched (F := F) m) (cellAt (c, k)) 0)
      ⊢ (|={Set.univ}=> bigSep Finset.univ fun k => iprop(∃ κ : ℕ, cellInv ER (sched (F := F) m) κ (cellAt (c, k))) : sProp 𝕄) from by
        rw [← bigSep_sep']
        exact (bigSep_mono fun k _ => (Rounds.body_intro ER (sched (F := F) m) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt around the ring -/

/-- From a duty of the barrier cells to the device and offset of the signal that pays it, and back: its own inverse. -/
def flip : Dev nD × Fin 31 ≃ Dev nD × Fin 31 where
  toFun p := (up p.1 p.2, p.2.rev)
  invFun p := (up p.1 p.2, p.2.rev)
  left_inv p := by
    show (up (up p.1 p.2) p.2.rev, p.2.rev.rev) = p
    rw [up_rev, Fin.rev_rev]
  right_inv p := by
    show (up (up p.1 p.2) p.2.rev, p.2.rev.rev) = p
    rw [up_rev, Fin.rev_rev]
/-- From a transfer's device and offset to where it lands. -/
def shift : Dev nD × Fin 31 ≃ Dev nD × Fin 31 where
  toFun p := (up p.1 p.2, p.2)
  invFun p := (up p.1 p.2.rev, p.2)
  left_inv p := by
    show (up (up p.1 p.2) p.2.rev, p.2) = p
    rw [up_rev]
  right_inv p := by
    show (up (up p.1 p.2.rev) p.2, p.2) = p
    rw [rev_up]

/-- The tokens of the duties device `c` pays. -/
def payToks (c : Dev nD) : sProp 𝕄 :=
  iprop((bigSep Finset.univ fun r : Fin 31 => dutyTok ER (barCell (up c r)) 0 r.rev) ∗ (bigSep Finset.univ fun r : Fin 31 => dutyTok ER (sendCell c r) 0 0)
    ∗ bigSep Finset.univ fun r : Fin 31 => dutyTok ER (recvCell (up c r) r) 0 0)

/-- A family over devices and offsets, in another order. -/
theorem reindex (e : Dev nD × Fin 31 ≃ Dev nD × Fin 31) (Φ : Dev nD × Fin 31 → sProp 𝕄) :
    (bigSep Finset.univ fun c : Dev nD => bigSep Finset.univ fun r : Fin 31 => Φ (c, r))
      = bigSep Finset.univ fun c : Dev nD => bigSep Finset.univ fun r : Fin 31 => Φ (e (c, r)) := by
  rw [← bigSep_univ_prod Φ, ← bigSep_univ_prod (fun p => Φ (e p)), bigSep_univ_equiv e Φ]

/-- A family over the barrier's duties, each seen from the device that pays it. -/
theorem bar_around (Φ : Dev nD → Fin 31 → sProp 𝕄) : (bigSep Finset.univ fun c : Dev nD => bigSep Finset.univ fun r : Fin 31 => Φ c r)
    = bigSep Finset.univ fun c : Dev nD => bigSep Finset.univ fun r : Fin 31 => Φ (up c r) r.rev := reindex flip fun p => Φ p.1 p.2
/-- A family over the landings, each seen from the device that sends it. -/
theorem recv_around (Φ : Dev nD → Fin 31 → sProp 𝕄) : (bigSep Finset.univ fun c : Dev nD => bigSep Finset.univ fun r : Fin 31 => Φ c r)
    = bigSep Finset.univ fun c : Dev nD => bigSep Finset.univ fun r : Fin 31 => Φ (up c r) r := reindex shift fun p => Φ p.1 p.2

/-- The tokens of everybody's cells are the tokens of the duties everybody pays. -/
theorem toks_around : (bigSep Finset.univ fun c : Dev nD => (toks c : sProp 𝕄)) = bigSep Finset.univ fun c : Dev nD => payToks c := by
  unfold toks payToks
  rw [bigSep_sep', bigSep_sep', bigSep_sep', bigSep_sep', bar_around fun c r => (dutyTok ER (barCell c) 0 r : sProp 𝕄),
    recv_around fun c r => (dutyTok ER (recvCell c r) 0 0 : sProp 𝕄)]

/-- A device's positions and tokens are what its body starts from. -/
theorem linear_intro (c : Dev nD) : iprop((bigSep Finset.univ fun k : IxC => atPos ER (cellAt (c, k)) 0 ∅ 0) ∗ payToks c) ⊢ (linear c : sProp 𝕄) := by
  unfold linear payToks
  rw [cells_eq]
  simp only [all_offs]
  iintro ⟨⟨H1, H2, H3⟩, H4, H5, H6⟩
  isplitl [H1]; · iexact H1
  isplitl [H2]; · iexact H2
  isplitl [H3]; · iexact H3
  isplitl [H4]; · iexact H4
  isplitl [H5] <;> iassumption

/-- One device's start, out of the shared records and what is its own. -/
theorem start_one (K : Dev nD × IxC → ℕ) (c : Dev nD) : iprop(records m K ∗ (linear c ∗ idle c)) ⊢ G' (F := F) m c := by
  unfold G'
  iintro ⟨#HR, Hl, Hi⟩
  isplitr [Hi]
  · iexists K
    isplitr; · iexact HR
    iexact Hl
  · iexact Hi

/-- What may be used again and again is available at each member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells allocated and the tokens dealt around are every device's start. -/
theorem regroup :
    (bigSep Finset.univ fun c : Dev nD => iprop((bigSep Finset.univ fun k => iprop(∃ κ : ℕ, cellInv ER (sched (F := F) m) κ (cellAt (c, k))))
          ∗ (bigSep Finset.univ fun k => iprop(atPos ER (cellAt (c, k)) 0 ∅ 0 ∗ reached ER (cellAt (c, k)) 0)) ∗ toks c ∗ idle c) : sProp 𝕄)
      ⊢ bigSep Finset.univ (G' (F := F) m) := by
  rw [bigSep_sep', bigSep_sep', bigSep_sep', ← bigSep_univ_prod (fun p : Dev nD × IxC => iprop(∃ κ : ℕ, cellInv ER (sched (F := F) m) κ (cellAt p))),
    bigSep_congr (s := Finset.univ) (fun (c : Dev nD) _ => bigSep_sep' Finset.univ (fun k : IxC => (atPos ER (cellAt (c, k)) 0 ∅ 0 : sProp 𝕄)) (fun k => reached ER (cellAt (c, k)) 0)),
    bigSep_sep', ← bigSep_univ_prod (fun p : Dev nD × IxC => (reached ER (cellAt p) 0 : sProp 𝕄))]
  iintro ⟨HI, ⟨Hat, #HR⟩, Htok, Hidle⟩
  ihave HK := (BI.bigSep_exists_pi Finset.univ (fun (p : Dev nD × IxC) (κ : ℕ) => (cellInv ER (sched (F := F) m) κ (cellAt p) : sProp 𝕄))) $$ HI
  icases HK with ⟨%K, #HI⟩
  ihave Htk := (Entails.of_eq (toks_around (F := F))) $$ Htok
  iapply (with_persistent (R := records m K) (Φ := fun c => iprop(linear c ∗ idle c)) fun c _ => start_one m K c)
  isplitr
  · unfold records; isplitl; · iexact HI
    iexact HR
  · rw [bigSep_sep']
    isplitr [Hidle]
    · iapply ((Entails.of_eq (bigSep_sep' Finset.univ (fun c : Dev nD => bigSep Finset.univ fun k : IxC => (atPos ER (cellAt (c, k)) 0 ∅ 0 : sProp 𝕄)) payToks).symm).trans
        (bigSep_mono fun c _ => linear_intro c))
      isplitl [Hat] <;> iassumption
    · iexact Hidle

/-- The launch deals every device its start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credit at launch -/

/-- What the transfers of a list owe a cell. -/
theorem oweS_at (c : Dev nD) (g : GSem nD τ sig) : ∀ l, oweS c l g () = (l.map fun r => if g = recvCell (up c r) r then N else 0).sum
  | [] => rfl
  | r :: l => by
    rw [oweS, Pi.add_apply, Finsupp.add_apply, oweS_at c g l, tallyAt_apply, List.map_cons, List.sum_cons, Nat.add_comm]
    simp only [and_true]
/-- What the signals of a list owe a cell besides. -/
theorem oweB_at (c : Dev nD) (g : GSem nD τ sig) : ∀ l, oweB c l g () = oweS c offs g () + (l.map fun r => if g = barCell (up c r) then 1 else 0).sum
  | [] => rfl
  | r :: l => by
    rw [oweB, Pi.add_apply, Finsupp.add_apply, oweB_at c g l, tallyAt_apply, List.map_cons, List.sum_cons]
    simp only [and_true]
    omega
/-- A sum over the list of the offsets is the sum over all of them. -/
theorem offs_sum (f : Fin 31 → ℕ) : (offs.map f).sum = ∑ r, f r := by
  rw [show offs = List.finRange 31 from by decide, Fin.sum_univ_def]

/-- What a device owes a cell. -/
theorem O₀_at (d : Dev nD) (g : GSem nD τ sig) :
    O₀ d g () = (∑ r, if g = recvCell (up d r) r then N else 0) + ∑ r, if g = barCell (up d r) then 1 else 0 := by
  unfold O₀; rw [oweB_at, oweS_at, offs_sum, offs_sum]

/-- A device is reached at an offset from where its mirror image leads. -/
theorem up_iff (d c : Dev nD) (r : Fin 31) : c = up d r ↔ d = up c r.rev :=
  ⟨fun h => by rw [h, up_rev], fun h => by rw [h, rev_up]⟩

/-- A barrier cell is no receive cell. -/
theorem bar_ne (c c' : Dev nD) (r : Fin 31) : barCell c ≠ recvCell c' r := fun h => by cases congrArg Prod.snd h
/-- The devices whose signals reach a barrier cell. -/
theorem bar_iff (d c : Dev nD) (r : Fin 31) : barCell c = barCell (up d r) ↔ d = up c r.rev :=
  (show barCell c = barCell (up d r) ↔ c = up d r from ⟨fun h => congrArg (fun g : GSem nD τ sig => g.1.1) h, fun h => h ▸ rfl⟩).trans (up_iff d c r)
/-- The one device and offset whose transfer reaches a receive cell. -/
theorem recv_iff (d c : Dev nD) (r r' : Fin 31) : recvCell c r = recvCell (up d r') r' ↔ r' = r ∧ d = up c r.rev := by
  constructor
  · intro h
    have h' := cellAt_injective (a₁ := (c, .inr (.inr r))) (a₂ := (up d r', .inr (.inr r'))) h
    have hr : r = r' := Sum.inr.inj (Sum.inr.inj (congrArg Prod.snd h'))
    subst hr
    exact ⟨rfl, (up_iff d c r).mp (congrArg Prod.fst h')⟩
  · rintro ⟨rfl, h⟩
    exact congrArg (fun x => recvCell x r') ((up_iff d c r').mpr h)

/-- A barrier cell is owed 31 units. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h (d : Dev nD) : O₀ d (barCell c) () = ∑ r : Fin 31, if d = up c r.rev then 1 else 0 := by
    rw [O₀_at, Finset.sum_eq_zero (fun r _ => if_neg (bar_ne c _ r)), Nat.zero_add]
    exact Finset.sum_congr rfl fun r _ => if_congr (bar_iff d c r) rfl rfl
  rw [Finset.sum_congr rfl fun d _ => h d, Finset.sum_comm, Finset.sum_congr rfl fun r _ => (Finset.sum_ite_eq' Finset.univ (up c r.rev) fun _ => 1).trans (if_pos (Finset.mem_univ _)),
    Finset.sum_const, Finset.card_univ, Fintype.card_fin, smul_eq_mul]

/-- A receive cell is owed a slot's credit. -/
theorem launch_recv (c : Dev nD) (r : Fin 31) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same]
  have h (d : Dev nD) : O₀ d (recvCell c r) () = if d = up c r.rev then N else 0 := by
    rw [O₀_at, Finset.sum_eq_zero (s := Finset.univ) (f := fun r' => if recvCell c r = barCell (up d r') then 1 else 0) (fun r' _ => if_neg (bar_ne _ c r).symm), Nat.add_zero,
      Finset.sum_congr rfl fun r' _ => if_congr (recv_iff d c r r') rfl rfl]
    by_cases hd : d = up c r.rev
    · simp only [hd, and_true, if_true]
      exact (Finset.sum_ite_eq' Finset.univ r fun _ => N).trans (if_pos (Finset.mem_univ _))
    · simp only [hd, and_false, if_false, Finset.sum_const_zero]
  rw [Finset.sum_congr rfl fun d _ => h d]
  exact (Finset.sum_ite_eq' Finset.univ (up c r.rev) fun _ => N).trans (if_pos (Finset.mem_univ _))

/-- The receive semaphores, one per offset. -/
def recvSem : Fin 31 ↪ SemLoc sig := ⟨fun r => semAt (.inr (.inr r)), fun r r' h => Sum.inr.inj (Sum.inr.inj (semAt_injective h))⟩

/-- A device's credit at launch is what its waits need. -/
theorem creds (c : Dev nD) :
    (Pipeline.launchCred O₀ c : sProp 𝕄) ⊢ iprop(cred (tallyAt (barCell c) () 31) ∗ all (fun r => cred (tallyAt (recvCell c r) () N)) offs) := by
  unfold Pipeline.launchCred
  rw [bigSep_univ_at _ (SemLoc.reg barS), launch_bar, all_offs]
  refine sep_mono_right ?_
  have hr : bigSep (Finset.univ.map recvSem) (fun sm => (cred (tallyOn (c.tc, sm) (launchCredit (Pipeline.owing O₀) 0 (c.tc, sm))) : sProp 𝕄))
      = bigSep Finset.univ fun r : Fin 31 => cred (tallyAt (recvCell c r) () N) := by
    rw [bigSep_map]
    exact bigSep_congr fun r _ => congrArg cred (launch_recv c r)
  rw [← hr]
  refine bigSep_subset fun s hs => ?_
  · obtain ⟨r, -, rfl⟩ := Finset.mem_map.mp hs
    exact Finset.mem_erase.mpr ⟨fun h => (nomatch h), Finset.mem_univ _⟩

/-! ## The launch's other sides -/

/-- What a device holds between the launch and its body. -/
def start (c : Dev nD) : sProp 𝕄 := iprop((∃ K, records m K ∗ linear c) ∗ credit c ∗ idle c)

/-- The launch gives a device its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G' credit
  icases HG with ⟨HK, Hi⟩
  isplitl
  · isplitl [HK]; · iexact HK
    isplitr [Hi]
    · isplitl [H1]; · iexact H1
      isplitl [HN] <;> iassumption
    · iexact Hi
  · iempintro

/-- With the scratch buffers that is what its body starts with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch part0 acc0
  iintro ⟨⟨HK, Hc, Hi⟩, -, Hr⟩
  isplitl [HK]; · iexact HK
  isplitl [Hc]; · iexact Hc
  isplitl [Hi] <;> iassumption

/-- What the body ends with gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch part0 acc0
  rw [all_offs, all_offs]
  iintro ⟨Hr, Hi, HzS, HzV, HzB⟩
  isplitl [HzB]; · iexact HzB
  isplitl [HzS HzV Hi]
  · isplitl [Hi]; · iexact Hi
    isplitl [HzS] <;> iassumption
  iexact Hr

/-- The pipeline may wait on its staging cells whatever the exchange owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ## The run -/

/-- What an array holds after the run. -/
def finalA (c : Dev nD) (w : Fin cfg0.W) : Buf (Elt F) ((cfg0.win w).arr.view.loc (c : Thread nD τ)) := (dats m ρ 0 c).arrAt w cfg0.N

/-- Every array of every device is at its contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Every weakly fair run of the 32 devices ends, with every array at its contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun

end
-- ==== Proof.KernelIdeal.Final.lean ====
/-
# What the run leaves, array by array

The frame and the result, read off `run_main`: the four argument arrays are as they were, the result array of a device is
`outV`, and every semaphore is at zero.
-/
module

public import proofs.«01_k».proof.Proof.KernelIdeal.Launch
public import Idealize.ShloMosaic.Lib.Pipeline.ValueKit

@[expose] public section

noncomputable section

namespace Cert.KernelIdealRun

open Idealize.ShloMosaic Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The result window is written back once, whole, with what the body leaves. -/
theorem final_out (c : Dev nD) : finalA m ρ c (4 : Fin 5) = outV m c := by
  refine (dats m ρ 0 c).arrAt_eq_of_after_last (4 : Fin 5) t₀ (by decide +kernel) _ (fun j => ?_)
  rfl

/-- The four argument arrays, the result array and the semaphores after the run. -/
theorem run_value : θ_run defs (onTc (τ := τ) (main (F := F))) ⟨m, fun _ => 0, ρ⟩ (fun r =>
    (∀ c : Dev nD, r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
      ⟨(h.1 c (4 : Fin 5)).trans (final_out m ρ c),
       (h.1 c (0 : Fin 5)).trans ((dats m ρ 0 c).arrAt_in (0 : Fin 5) rfl _),
       (h.1 c (1 : Fin 5)).trans ((dats m ρ 0 c).arrAt_in (1 : Fin 5) rfl _),
       (h.1 c (2 : Fin 5)).trans ((dats m ρ 0 c).arrAt_in (2 : Fin 5) rfl _),
       (h.1 c (3 : Fin 5)).trans ((dats m ρ 0 c).arrAt_in (3 : Fin 5) rfl _)⟩, h.2⟩)
    (run_main m ρ)

/-- The frame: the values dropped. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => (h.1 c).2, h.2⟩) (run_value m ρ)

end Cert.KernelIdealRun

end
-- ==== Proof.Value.Terms.lean ====
/-
# The router's mathematics

The names in which both programs are read: a token's scores, its softmax, and the two experts it is sent to.
-/
module

public import Idealize.ShloMosaic.Lib.Pointwise
public import Idealize.ShloMosaic.Lib.Pointwise.Tactic

@[expose] public section

noncomputable section

namespace Cert.Router

open Idealize.ShloMosaic

/-- The tokens. -/
abbrev Tok : Type := (⟨2, ![256, 128]⟩ : Shape).Idx → EReal
/-- The router's matrix. -/
abbrev Rtr : Type := (⟨2, ![128, 64]⟩ : Shape).Idx → EReal
/-- The experts each token is sent to. -/
abbrev Sel : Type := (⟨2, ![256, 2]⟩ : Shape).Idx → BitVec 32

variable (x : Tok) (w : Rtr)

/-- Token `t`'s score for expert `e`. -/
def score (t : Fin 256) (e : Fin 64) : EReal := ∑ k : Fin 128, x (ix2 t k) * w (ix2 k e)
/-- Its greatest score. -/
def top (t : Fin 256) : EReal := Finset.fold max (Ideal.ofBits .f32 0xFF800000#32) (fun e : Fin 64 => score x w t e) Finset.univ
/-- The exponential of a score, the greatest taken off. -/
def num (t : Fin 256) (e : Fin 64) : EReal := Ideal.exp (score x w t e - top x w t)
/-- The softmax. -/
def prob (t : Fin 256) (e : Fin 64) : EReal := Ideal.div (num x w t e) (∑ e' : Fin 64, num x w t e')

/-- Expert `e`'s index word. -/
def eW (e : Fin 64) : BitVec 32 := BitVec.ofNat 32 e.val

/-- Two index words are equal when the experts are. -/
theorem eq_eW (a b : Fin 64) : IntOp.cmpi .eq (eW a) (eW b) = BitVec.ofBool (decide (a = b)) := by
  unfold IntOp.cmpi eW
  refine congrArg BitVec.ofBool (Bool.eq_iff_iff.mpr ?_)
  simp only [beq_iff_eq, decide_eq_true_eq]
  constructor
  · intro h
    have := congrArg BitVec.toNat h
    simp only [BitVec.toNat_ofNat] at this
    exact Fin.ext (by omega)
  · rintro rfl; rfl

/-- A select on two index words is an `if` on the experts. -/
theorem select_eW {α : Type} (a b : Fin 64) (u v : α) : Scalar.select (IntOp.cmpi .eq (eW a) (eW b)) u v = if a = b then u else v := by
  rw [eq_eW]
  by_cases h : a = b
  · rw [if_pos h, decide_eq_true h]; rfl
  · rw [if_neg h, decide_eq_false h]; rfl

/-- A word between 0 and 63 is an expert's. -/
theorem exists_eW (b : BitVec 32) (h0 : IntOp.cmpi .sge b 0#32 = 1#1) (h1 : IntOp.cmpi .slt b 64#32 = 1#1) : ∃ e : Fin 64, b = eW e := by
  have h0' : (0 : Int) ≤ b.toInt := by
    by_contra hn
    unfold IntOp.cmpi at h0
    simp only [BitVec.sle, BitVec.toInt_zero, decide_eq_false hn] at h0
    exact absurd h0 (by decide)
  have h1' : b.toInt < 64 := by
    by_contra hn
    have h64 : (64#32).toInt = 64 := by decide
    unfold IntOp.cmpi at h1
    simp only [BitVec.slt, h64, decide_eq_false hn] at h1
    exact absurd h1 (by decide)
  have ht : b.toInt = b.toNat := by
    rcases Nat.lt_or_ge (2 * b.toNat) (2 ^ 32) with h | h
    · exact BitVec.toInt_eq_toNat_of_lt h
    · exfalso; rw [BitVec.toInt_eq_toNat_cond, if_neg (by omega)] at h0'; have := b.isLt; omega
  exact ⟨⟨b.toNat, by omega⟩, by simp [eW]⟩

/-- A token's row through expert `e`'s matrix, at column `o`. -/
def through (W : (⟨3, ![64, 128, 256]⟩ : Shape).Idx → EReal) (t : Fin 256) (e : Fin 64) (o : Fin 256) : EReal :=
  ∑ j : Fin 128, x (ix2 t j) * W (ix3 e j o)

/-- The mixture of a token's two experts `a` and `b`, each weighted by its share of their probabilities. -/
def mix (W : (⟨3, ![64, 128, 256]⟩ : Shape).Idx → EReal) (a b : Fin 64) (t o : Fin 256) : EReal :=
  Ideal.div (prob x w t a) (prob x w t a + prob x w t b) * through x W t a o
    + Ideal.div (prob x w t b) (prob x w t a + prob x w t b) * through x W t b o

/-- Expert `e`'s share of a token sent to `a` and `b`. -/
def share (a b e : Fin 64) (t : Fin 256) : EReal :=
  Ideal.div ((if a = e then prob x w t a else 0) + (if b = e then prob x w t b else 0)) (prob x w t a + prob x w t b)

end Cert.Router

end
-- ==== Proof.Value.Math.lean ====
/-
# The sum over all the experts is the mixture of two

Over finite tokens and a finite router every probability is a positive real, so the shares are nonnegative reals: all but the
two chosen experts' are zero, and a nonnegative real distributes over a sum of extended reals.
-/
module

public import proofs.«01_k».proof.Proof.Value.Terms
public import Mathlib.Data.EReal.Operations

@[expose] public section

noncomputable section

namespace Cert.Router

open Idealize.ShloMosaic

/-- An extended real that is a real. -/
def IsReal (v : EReal) : Prop := ∃ r : ℝ, v = (r : EReal)

/-- The sum of real numbers, taken among the extended ones. -/
theorem coe_sum_real {n : Nat} (g : Fin n → ℝ) : ((∑ k, g k : ℝ) : EReal) = ∑ k, (g k : EReal) := by
  induction (Finset.univ : Finset (Fin n)) using Finset.induction_on with
  | empty => simp
  | insert a s ha ih => rw [Finset.sum_insert ha, Finset.sum_insert ha, EReal.coe_add, ih]

/-- A sum of reals is a real. -/
theorem IsReal.sum {n : Nat} (f : Fin n → EReal) (h : ∀ k, IsReal (f k)) : IsReal (∑ k, f k) := by
  choose g hg using h
  exact ⟨∑ k, g k, by rw [coe_sum_real]; exact Finset.sum_congr rfl fun k _ => hg k⟩

variable {x : Tok} {w : Rtr} (hx : ∀ t j, IsReal (x (ix2 t j))) (hw : ∀ j e, IsReal (w (ix2 j e)))
include hx hw

/-- Every score is a real. -/
theorem score_real (t : Fin 256) (e : Fin 64) : IsReal (score x w t e) := by
  refine IsReal.sum _ fun k => ?_
  obtain ⟨a, ha⟩ := hx t k
  obtain ⟨b, hb⟩ := hw k e
  exact ⟨a * b, by rw [ha, hb, EReal.coe_mul]⟩

/-- So is the greatest. -/
theorem top_real (t : Fin 256) : IsReal (top x w t) := by
  have hb : Ideal.ofBits .f32 0xFF800000#32 = ⊥ := by simp [Ideal.ofBits, Ideal.ieee]
  have h1 : top x w t ≠ ⊤ := by
    refine ne_of_lt ?_
    unfold top
    rw [Finset.fold_max_lt, hb]
    refine ⟨bot_lt_top, fun e _ => ?_⟩
    obtain ⟨r, hr⟩ := score_real hx hw t e
    rw [hr]; exact EReal.coe_lt_top r
  have h2 : top x w t ≠ ⊥ := by
    refine ne_of_gt ?_
    unfold top
    rw [Finset.lt_fold_max]
    refine Or.inr ⟨0, Finset.mem_univ _, ?_⟩
    obtain ⟨r, hr⟩ := score_real hx hw t 0
    rw [hr]; exact EReal.bot_lt_coe r
  exact ⟨(top x w t).toReal, (EReal.coe_toReal h1 h2).symm⟩

/-- An exponential is a positive real. -/
theorem num_pos (t : Fin 256) (e : Fin 64) : ∃ r : ℝ, 0 < r ∧ num x w t e = (r : EReal) := by
  obtain ⟨a, ha⟩ := score_real hx hw t e
  obtain ⟨b, hb⟩ := top_real hx hw t
  refine ⟨Real.exp (a - b), Real.exp_pos _, ?_⟩
  unfold num
  rw [ha, hb, ← EReal.coe_sub, Ideal.exp_coe]

/-- A probability is a positive real. -/
theorem prob_pos (t : Fin 256) (e : Fin 64) : ∃ r : ℝ, 0 < r ∧ prob x w t e = (r : EReal) := by
  choose g hg hn using num_pos hx hw t
  have hs : (∑ e', num x w t e') = ((∑ e', g e' : ℝ) : EReal) := by
    rw [coe_sum_real]; exact Finset.sum_congr rfl fun k _ => hn k
  have hp : 0 < ∑ e', g e' := Finset.sum_pos (fun k _ => hg k) Finset.univ_nonempty
  refine ⟨g e * (1 / ∑ e', g e'), mul_pos (hg e) (one_div_pos.mpr hp), ?_⟩
  unfold prob
  rw [hs, Ideal.div_coe hp.ne', hn e, EReal.coe_mul]

omit hx hw in
/-- A nonnegative real distributes over a sum of extended reals. -/
theorem mul_sum_real {r : ℝ} (hr : 0 ≤ r) {n : Nat} (f : Fin n → EReal) : (r : EReal) * ∑ k, f k = ∑ k, (r : EReal) * f k := by
  induction (Finset.univ : Finset (Fin n)) using Finset.induction_on with
  | empty => simp
  | insert a s ha ih => rw [Finset.sum_insert ha, Finset.sum_insert ha, EReal.left_distrib_of_nonneg_of_ne_top (EReal.coe_nonneg.mpr hr) (EReal.coe_ne_top r), ih]

/-- An expert's share, and what its matrix gives of the token scaled by the share: two terms, one for each choice. -/
theorem share_through (W : (⟨3, ![64, 128, 256]⟩ : Shape).Idx → EReal) (a b e : Fin 64) (t o : Fin 256) :
    ∑ j : Fin 128, x (ix2 t j) * share x w a b e t * W (ix3 e j o)
      = (if a = e then Ideal.div (prob x w t a) (prob x w t a + prob x w t b) * through x W t a o else 0)
        + (if b = e then Ideal.div (prob x w t b) (prob x w t a + prob x w t b) * through x W t b o else 0) := by
  obtain ⟨p, hp, hpa⟩ := prob_pos hx hw t a
  obtain ⟨q, hq, hqb⟩ := prob_pos hx hw t b
  have hpq : 0 < p + q := add_pos hp hq
  have hd : prob x w t a + prob x w t b = ((p + q : ℝ) : EReal) := by rw [hpa, hqb, EReal.coe_add]
  have hi : 0 < 1 / (p + q) := one_div_pos.mpr hpq
  have hA : Ideal.div (prob x w t a) (prob x w t a + prob x w t b) = ((p * (1 / (p + q)) : ℝ) : EReal) := by
    rw [hd, Ideal.div_coe hpq.ne', hpa, EReal.coe_mul]
  have hB : Ideal.div (prob x w t b) (prob x w t a + prob x w t b) = ((q * (1 / (p + q)) : ℝ) : EReal) := by
    rw [hd, Ideal.div_coe hpq.ne', hqb, EReal.coe_mul]
  have hS : share x w a b e t = (((if a = e then p * (1 / (p + q)) else 0) + (if b = e then q * (1 / (p + q)) else 0) : ℝ) : EReal) := by
    unfold share
    rw [hd, Ideal.div_coe hpq.ne', hpa, hqb]
    split_ifs <;> simp only [← EReal.coe_add, ← EReal.coe_mul, ← EReal.coe_zero, add_mul, zero_mul, zero_add, add_zero]
  have hA0 : 0 ≤ (if a = e then p * (1 / (p + q)) else 0) := by split_ifs <;> positivity
  have hB0 : 0 ≤ (if b = e then q * (1 / (p + q)) else 0) := by split_ifs <;> positivity
  rw [hS, Finset.sum_congr rfl fun j _ => show x (ix2 t j) * _ * W (ix3 e j o) = _ * (x (ix2 t j) * W (ix3 e j o)) by
    rw [mul_comm (x (ix2 t j)), mul_assoc]]
  rw [← mul_sum_real (add_nonneg hA0 hB0), EReal.coe_add,
    EReal.right_distrib_of_nonneg (EReal.coe_nonneg.mpr hA0) (EReal.coe_nonneg.mpr hB0), hA, hB]
  congr 1
  · by_cases h : a = e
    · subst h; simp only [if_true]; rfl
    · simp only [if_neg h, EReal.coe_zero, zero_mul]
  · by_cases h : b = e
    · subst h; simp only [if_true]; rfl
    · simp only [if_neg h, EReal.coe_zero, zero_mul]

/-- The sum over the 64 experts, the token scaled by each one's share, is the mixture. -/
theorem sum_share (W : (⟨3, ![64, 128, 256]⟩ : Shape).Idx → EReal) (a b : Fin 64) (t o : Fin 256) :
    ∑ e : Fin 64, ∑ j : Fin 128, x (ix2 t j) * share x w a b e t * W (ix3 e j o) = mix x w W a b t o := by
  rw [Finset.sum_congr rfl fun e _ => share_through hx hw W a b e t o, Finset.sum_add_distrib]
  simp only [Finset.sum_ite_eq, Finset.mem_univ, if_true]
  rfl

omit hx hw in
/-- A sum over the experts, two to a device. -/
theorem sum_pairs (f : Fin 64 → EReal) :
    ∑ d : Fin 32, (f ⟨2 * d.val, by omega⟩ + f ⟨2 * d.val + 1, by omega⟩) = ∑ e : Fin 64, f e := by
  rw [← (finProdFinEquiv (m := 32) (n := 2)).sum_comp, Fintype.sum_prod_type]
  refine Finset.sum_congr rfl fun d _ => ?_
  rw [Fin.sum_univ_two]
  congr 2
  · exact Fin.ext (by simp [finProdFinEquiv])
  · exact Fin.ext (by simp [finProdFinEquiv]; omega)

end Cert.Router

end
-- ==== Proof.Value.Kernel.lean ====
/-
# The kernel's result, read at an index

Each stretch of the body at an index, then a device's partial output, then the sum over the devices.
-/
module

public import proofs.«01_k».proof.Proof.KernelIdeal.Final
public import proofs.«01_k».proof.Proof.Value.Terms
public import proofs.«01_k».proof.Proof.Value.Math

@[expose] public section

noncomputable section

namespace Cert.Router

open Idealize.ShloMosaic
open Cert.KernelIdeal Cert.KernelIdeal.Gen Cert.KernelIdealRun

/-- A column of experts' index words, as the kernel loads it. -/
abbrev Col : Type := (⟨2, ![256, 1]⟩ : Shape).Idx → BitVec 32

/-- The kernel's softmax. -/
theorem pay2_apply (x : Tok) (w : Rtr) (t : Fin 256) (e : Fin 64) : k0_pay2 (F := Ideal) x w (ix2 t e) = prob x w t e := by
  unfold prob num top score
  pointwise [k0_pay2, k0_pay1]

variable (x : Tok) (w : Rtr) {i0 i1 : Col} {t : Fin 256} {a b : Fin 64}

/-- The probabilities masked to the token's expert. -/
theorem masked (p : Fin 64 → EReal) {c : BitVec 32} (hc : c = eW a) :
    ∑ e : Fin 64, Scalar.select (IntOp.cmpi CmpIPredicate.eq (BitVec.ofNat 32 e.val) c) (p e) 0 = p a := by
  subst hc
  rw [Finset.sum_congr rfl fun e _ => (show Scalar.select (IntOp.cmpi _ (BitVec.ofNat 32 e.val) _) _ _ = _ from select_eW e a (p e) 0)]
  simp only [Finset.sum_ite_eq', Finset.mem_univ, if_true]

/-- The first gate: the probability at the token's first expert. -/
theorem pay5_apply (h0 : i0 (ix2 t 0) = eW a) : k0_pay5 (F := Ideal) x w i0 (ix2 t 0) = prob x w t a := by
  unfold k0_pay5
  generalize hp : k0_pay2 (F := Ideal) x w = p
  pointwise [k0_pay3]
  rw [masked (fun e => p (ix2 t e)) h0, ← hp, pay2_apply]

/-- The second gate, before its row is added up. -/
theorem pay6_sum (h1 : i1 (ix2 t 0) = eW b) : ∑ e : Fin 64, k0_pay6 (F := Ideal) x w i1 (ix2 t e) = prob x w t b := by
  unfold k0_pay6
  generalize hp : k0_pay2 (F := Ideal) x w = p
  pointwise [k0_pay4]
  rw [masked (fun e => p (ix2 t e)) h1, ← hp, pay2_apply]

/-- A token scaled by the share of the second expert of the device. -/
theorem pay10_apply (d : BitVec 32) {n : Fin 64} (hd : Scalar.addi (Scalar.muli d 2#32) 1#32 = eW n)
    (h0 : i0 (ix2 t 0) = eW a) (h1 : i1 (ix2 t 0) = eW b) (j : Fin 128) :
    k0_pay10 (F := Ideal) d (k0_pay1 x) (k0_pay3 (F := Ideal) i0) (k0_pay4 (F := Ideal) i1) (k0_pay5 x w i0) (k0_pay6 x w i1) (ix2 t j) = x (ix2 t j) * share x w a b n t := by
  have h5 := pay5_apply x w h0
  have h6 := pay6_sum x w h1
  generalize k0_pay5 (F := Ideal) x w i0 = g0 at h5 ⊢
  generalize k0_pay6 (F := Ideal) x w i1 = g1 at h6 ⊢
  unfold share
  pointwise [k0_pay10, k0_pay8, k0_pay7, k0_pay1, k0_pay3, k0_pay4]
  rw [hd, h0, h1, h5, h6, select_eW, select_eW]

/-- The device's first expert's output for a token. -/
theorem pay9_apply (d : BitVec 32) {n : Fin 64} (hd : Scalar.addi (Scalar.muli d 2#32) 0#32 = eW n)
    (h0 : i0 (ix2 t 0) = eW a) (h1 : i1 (ix2 t 0) = eW b) (y : FVec Ideal S1x128x256 .bf16) (o : Fin 256) :
    k0_pay9 (F := Ideal) d (k0_pay1 x) (k0_pay3 (F := Ideal) i0) (k0_pay4 (F := Ideal) i1) (k0_pay5 x w i0) (k0_pay6 x w i1) y (ix2 t o)
      = ∑ j : Fin 128, x (ix2 t j) * share x w a b n t * y (ix3 0 j o) := by
  have h5 := pay5_apply x w h0
  have h6 := pay6_sum x w h1
  generalize k0_pay5 (F := Ideal) x w i0 = g0 at h5 ⊢
  generalize k0_pay6 (F := Ideal) x w i1 = g1 at h6 ⊢
  unfold share
  pointwise [k0_pay9, k0_pay8, k0_pay7, k0_pay1, k0_pay3, k0_pay4]
  simp only [hd, h0, h1, h5, h6, select_eW]

/-- Row `r` of device `c`'s eight tokens. -/
def tokOf (c : Fin 32) (r : Fin 8) : Fin 256 := ⟨c.val * 8 + r.val, by omega⟩

/-- The partial output's two summands at an index. -/
theorem pay12_apply (u : FVec Ideal S256x256 .f32) (v : FVec Ideal S256x128 .bf16) (y : FVec Ideal S1x128x256 .bf16) (c : Fin 32) (r : Fin 8) (o : Fin 256) :
    k0_pay12 (F := Ideal) u v (k0_pay11 y) (constant S256x256 .f32 0x00000000#32) (ix3 c r o)
      = u (ix2 (tokOf c r) o) + ∑ j : Fin 128, v (ix2 (tokOf c r) j) * y (ix3 0 j o) := by
  pointwise [k0_pay12, k0_pay11]
  rfl

/-- The sum over the slots. -/
theorem pay14_apply (y : FVec Ideal S32x8x256 .bf16) (r : Fin 8) (o : Fin 256) :
    k0_pay14 (F := Ideal) y (ix2 r o) = ∑ k : Fin 32, y (ix3 k r o) := by
  pointwise [k0_pay14]

/-- The first of a device's two experts. -/
def first (d : Dev nD) : Fin 64 := ⟨2 * d.val, by have := d.isLt; simp only [nD] at this; omega⟩
/-- The second of a device's two experts. -/
def second (d : Dev nD) : Fin 64 := ⟨2 * d.val + 1, by have := d.isLt; simp only [nD] at this; omega⟩

/-- The word the kernel computes for its first expert. -/
theorem word_first (d : Dev nD) : Scalar.addi (Scalar.muli (word d) 2#32) 0#32 = eW (first d) := by
  revert d; decide
/-- And for its second. -/
theorem word_second (d : Dev nD) : Scalar.addi (Scalar.muli (word d) 2#32) 1#32 = eW (second d) := by
  revert d; decide

/-- A device's partial output for a token: its two experts' shares of it, each through the expert's matrix. -/
theorem partOf_apply (d : Dev nD) (e0 e1 : FVec Ideal S1x128x256 .bf16) (c : Fin 32) (r : Fin 8) (o : Fin 256)
    (h0 : i0 (ix2 (tokOf c r) 0) = eW a) (h1 : i1 (ix2 (tokOf c r) 0) = eW b) :
    partOf (F := Ideal) d x w i0 i1 e0 e1 (ix3 c r o)
      = ∑ j : Fin 128, x (ix2 (tokOf c r) j) * share x w a b (first d) (tokOf c r) * e0 (ix3 0 j o)
        + ∑ j : Fin 128, x (ix2 (tokOf c r) j) * share x w a b (second d) (tokOf c r) * e1 (ix3 0 j o) := by
  unfold partOf
  rw [pay12_apply, pay9_apply x w (word d) (word_first d) h0 h1]
  congr 1
  refine Finset.sum_congr rfl fun j _ => ?_
  rw [pay10_apply x w (word d) (word_second d) h0 h1]

variable (m : (ℓ : Loc nD τ sig) → Buf (Elt Ideal) ℓ)

/-- A whole window's one block is the array itself. -/
theorem whole_emb (W : Pipeline.Window sig grid0) (h : ∀ a, W.index (0 : Fin 1) a = 0) (i : (W.xblock (grid0.coords (0 : Fin 1))).Idx) (a : Fin W.shape.rank) :
    ((W.rect (0 : Fin 1)).emb i a).val = (i a).val :=
  Pipeline.Window.rect_emb_val_of_index_zero _ _ _ (h a) i

/-- The tokens' window holds the tokens. -/
theorem xin_eq (c : Dev nD) : xin m c = m ((c.tc : Thread nD τ).loc main_arg0) := by
  funext i
  exact congrArg (m ((c.tc : Thread nD τ).loc main_arg0)) (funext fun a => Fin.ext (whole_emb win0_0 (fun _ => rfl) i a))
/-- The router's window holds the router. -/
theorem rwin_eq (c : Dev nD) : rwin m c = m ((c.tc : Thread nD τ).loc main_arg1) := by
  funext i
  exact congrArg (m ((c.tc : Thread nD τ).loc main_arg1)) (funext fun a => Fin.ext (whole_emb win0_1 (fun _ => rfl) i a))
/-- The indices' window holds the indices. -/
theorem ixin_eq (c : Dev nD) : ixin m c = m ((c.tc : Thread nD τ).loc main_arg2) := by
  funext i
  exact congrArg (m ((c.tc : Thread nD τ).loc main_arg2)) (funext fun a => Fin.ext (whole_emb win0_2 (fun _ => rfl) i a))
/-- The experts' window holds the device's two experts. -/
theorem ewin_eq (c : Dev nD) : ewin m c = m ((c.tc : Thread nD τ).loc main_arg3) := by
  funext i
  exact congrArg (m ((c.tc : Thread nD τ).loc main_arg3)) (funext fun a => Fin.ext (whole_emb win0_3 (fun _ => rfl) i a))

/-- The first column of the indices, as the kernel loads it. -/
theorem ix0_apply (f : Sel) (t : Fin 256) : ixM.view.readAt (Elt Ideal) rI0.toLoadRect f (ix2 t 0) = f (ix2 t 0) := by
  refine congrArg f (funext fun a => Fin.ext ?_)
  match a with
  | ⟨0, _⟩ => show 0 + 1 * t.val = t.val; omega
  | ⟨1, _⟩ => rfl
/-- The second column of the indices. -/
theorem ix1_apply (f : Sel) (t : Fin 256) : ixM.view.readAt (Elt Ideal) rI1.toLoadRect f (ix2 t 0) = f (ix2 t 1) := by
  refine congrArg f (funext fun a => Fin.ext ?_)
  match a with
  | ⟨0, _⟩ => show 0 + 1 * t.val = t.val; omega
  | ⟨1, _⟩ => rfl
/-- The first matrix of the experts, as the kernel loads it. -/
theorem ew0_apply (f : (⟨3, ![2, 128, 256]⟩ : Shape).Idx → EReal) (j : Fin 128) (o : Fin 256) :
    ewM.view.readAt (Elt Ideal) rW0.toLoadRect f (ix3 0 j o) = f (ix3 0 j o) := by
  refine congrArg f (funext fun a => Fin.ext ?_)
  match a with
  | ⟨0, _⟩ => rfl
  | ⟨1, _⟩ => show 0 + 1 * j.val = j.val; omega
  | ⟨2, _⟩ => show 0 + 1 * o.val = o.val; omega
/-- The second matrix of the experts. -/
theorem ew1_apply (f : (⟨3, ![2, 128, 256]⟩ : Shape).Idx → EReal) (j : Fin 128) (o : Fin 256) :
    ewM.view.readAt (Elt Ideal) rW1.toLoadRect f (ix3 0 j o) = f (ix3 1 j o) := by
  refine congrArg f (funext fun a => Fin.ext ?_)
  match a with
  | ⟨0, _⟩ => rfl
  | ⟨1, _⟩ => show 0 + 1 * j.val = j.val; omega
  | ⟨2, _⟩ => show 0 + 1 * o.val = o.val; omega

/-- Every device's slots name the 32 devices, each once. -/
theorem sum_fromDev (c : Dev nD) (f : Dev nD → EReal) : ∑ k : Fin 32, f (fromDev c k.val) = ∑ d : Fin 32, f d := by
  refine Function.Bijective.sum_comp (e := fun k : Fin 32 => (fromDev c k.val : Fin 32)) ?_ f
  refine Finite.injective_iff_bijective.mp fun k k' h => Fin.ext ?_
  have h' := congrArg Fin.val h
  have hc : c.val < 32 := c.isLt
  simp only [fromDev] at h'
  omega

variable {X : Tok} {Wr : Rtr} {I : Sel} {W : (⟨3, ![64, 128, 256]⟩ : Shape).Idx → EReal}

/-- A device's result at an index, every device holding the same tokens, router and choices and its own two experts: the
    mixture of the token's two experts. -/
theorem outV_apply (hX : ∀ c : Dev nD, m ((c.tc : Thread nD τ).loc main_arg0) = X) (hR : ∀ c : Dev nD, m ((c.tc : Thread nD τ).loc main_arg1) = Wr)
    (hI : ∀ c : Dev nD, m ((c.tc : Thread nD τ).loc main_arg2) = I)
    (hW : ∀ c : Dev nD, m ((c.tc : Thread nD τ).loc main_arg3) = Layout.block ⟨3, ![2, 128, 256]⟩ ⟨3, ![64, 128, 256]⟩ 0 32 c W)
    (hx : ∀ t j, IsReal (X (ix2 t j))) (hw : ∀ j e, IsReal (Wr (ix2 j e)))
    (c : Dev nD) (r : Fin 8) (o : Fin 256) {a b : Fin 64} (h0 : I (ix2 (tokOf c r) 0) = eW a) (h1 : I (ix2 (tokOf c r) 1) = eW b) :
    outV m c (ix2 r o) = mix X Wr W a b (tokOf c r) o := by
  let f : Dev nD → EReal := fun d => partV m d (ix3 (c : Fin 32) r o)
  have hpart (d : Fin 32) : f d
      = ∑ j : Fin 128, X (ix2 (tokOf c r) j) * share X Wr a b (first d) (tokOf c r) * W (ix3 (first d) j o)
        + ∑ j : Fin 128, X (ix2 (tokOf c r) j) * share X Wr a b (second d) (tokOf c r) * W (ix3 (second d) j o) := by
    show partV m d (ix3 (c : Fin 32) r o) = _
    unfold partV
    rw [xin_eq, rwin_eq, ixin_eq, ewin_eq, hX, hR, hI, hW]
    refine (partOf_apply X Wr d _ _ c r o ((ix0_apply I _).trans h0) ((ix1_apply I _).trans h1)).trans ?_
    congr 1
    · refine Finset.sum_congr rfl fun j _ => congrArg (_ * ·) ((ew0_apply _ j o).trans ?_)
      rw [Layout.block_apply]
      refine congrArg W (funext fun a => Fin.ext ?_)
      match a with
      | ⟨0, _⟩ => show d.val * 2 + 0 = 2 * d.val; omega
      | ⟨1, _⟩ => rfl
      | ⟨2, _⟩ => rfl
    · refine Finset.sum_congr rfl fun j _ => congrArg (_ * ·) ((ew1_apply _ j o).trans ?_)
      rw [Layout.block_apply]
      refine congrArg W (funext fun a => Fin.ext ?_)
      match a with
      | ⟨0, _⟩ => show d.val * 2 + 1 = 2 * d.val + 1; omega
      | ⟨1, _⟩ => rfl
      | ⟨2, _⟩ => rfl
  have hacc (k : Fin 32) : accV m c (ix3 k r o) = partV m (fromDev c k.val) (ix3 (c : Fin 32) r o) := by
    refine congrArg (partV m (fromDev c k.val)) (funext fun a => ?_)
    match a with
    | ⟨0, _⟩ => rfl
    | ⟨1, _⟩ => rfl
    | ⟨2, _⟩ => rfl
  calc outV m c (ix2 r o) = ∑ k : Fin 32, f (fromDev c k.val) :=
        (pay14_apply (accV m c) r o).trans (Finset.sum_congr rfl fun k _ => hacc k)
    _ = ∑ d : Fin 32, f d := sum_fromDev c f
    _ = ∑ e : Fin 64, ∑ j : Fin 128, X (ix2 (tokOf c r) j) * share X Wr a b e (tokOf c r) * W (ix3 e j o) :=
        (Finset.sum_congr rfl fun d _ => hpart d).trans
          (sum_pairs fun e => ∑ j : Fin 128, X (ix2 (tokOf c r) j) * share X Wr a b e (tokOf c r) * W (ix3 e j o))
    _ = mix X Wr W a b (tokOf c r) o := sum_share hx hw W a b (tokOf c r) o

end Cert.Router

end
-- ==== Proof.Value.Gather.lean ====
/-
# The reference's two gathers, read at an index

Both take one start index per token, read signed and clamped into the operand's axis.
-/
module

public import proofs.«01_k».proof.Proof.Gen.ReferenceIdeal
public import Idealize.ShloMosaic.Lib.Pointwise

@[expose] public section

noncomputable section

namespace Cert.Router

open Idealize.ShloMosaic
open Cert.ReferenceIdeal

variable {α : Type}

/-- A start index, read signed and clamped, as an expert. -/
def clampE (b : BitVec 32) : Fin 64 := ⟨min b.toInt.toNat 63, by omega⟩

/-- The dimension numbers of the pick. -/
abbrev pickD : GatherDims S256x64 S256x1x1 S256x1 := gather_S256x64_S256x1x1_S256x1_n_1_0_0_1_2_11
/-- The dimension numbers of the take. -/
abbrev takeD : GatherDims S64x128x256 S256x1 S256x128x256 := gather_S64x128x256_S256x1_S256x128x256_12_0_n_n_0_1_1128256

/-- Where the pick reads its column: token `t`'s start index, clamped. -/
theorem pick_start (idx : IVec S256x1x1 32) (t : Fin 256) :
    GatherDims.start pickD (ix2 t 0) idx (1 : Fin 2) = (clampE (idx (ix3 t 0 0))).val := by
  have hm : (1 : Fin 2) ∈ GatherDims.startIndexMap pickD := List.mem_singleton.mpr rfl
  unfold GatherDims.start
  refine (dif_pos hm).trans ?_
  have hsi : GatherDims.siIdx pickD (ix2 t 0) ⟨List.idxOf (1 : Fin 2) (GatherDims.startIndexMap pickD), List.idxOf_lt_length_iff.2 hm⟩
      = ix3 t 0 0 := by
    funext b; refine Fin.ext ?_
    match b with
    | ⟨0, _⟩ => rfl
    | ⟨1, _⟩ => rfl
    | ⟨2, _⟩ => rfl
  rw [hsi]
  rfl

/-- Where the take reads its matrix: token `t`'s start index, clamped. -/
theorem take_start (idx : IVec S256x1 32) (t : Fin 256) (j : Fin 128) (o : Fin 256) :
    GatherDims.start takeD (ix3 t j o) idx (0 : Fin 3) = (clampE (idx (ix2 t 0))).val := by
  have hm : (0 : Fin 3) ∈ GatherDims.startIndexMap takeD := List.mem_singleton.mpr rfl
  unfold GatherDims.start
  refine (dif_pos hm).trans ?_
  have hsi : GatherDims.siIdx takeD (ix3 t j o) ⟨List.idxOf (0 : Fin 3) (GatherDims.startIndexMap takeD), List.idxOf_lt_length_iff.2 hm⟩
      = ix2 t 0 := by
    funext b; refine Fin.ext ?_
    match b with
    | ⟨0, _⟩ => rfl
    | ⟨1, _⟩ => rfl
  rw [hsi]
  rfl

/-- The pick of one column per row: row `t`'s element at its own clamped column. -/
theorem pick_apply (x : S256x64.Idx → α) (idx : IVec S256x1x1 32) (t : Fin 256) :
    Host.gather pickD x idx (ix2 t 0) = x (ix2 t (clampE (idx (ix3 t 0 0)))) := by
  unfold Host.gather
  congr 1
  funext a
  refine Fin.ext ?_
  show GatherDims.start pickD (ix2 t 0) idx a + GatherDims.batchCoord pickD (ix2 t 0) a + GatherDims.offCoord pickD (ix2 t 0) a = _
  have hoff : GatherDims.offCoord pickD (ix2 t 0) a = 0 := by
    refine GatherDims.offCoord_eq_zero _ _ _ fun h => (GatherDims.mem_sKept _ _).mp h |> fun ⟨h1, h2⟩ => ?_
    match a with
    | ⟨0, _⟩ => exact h2 (List.mem_singleton.mpr rfl)
    | ⟨1, _⟩ => exact h1 (List.mem_singleton.mpr rfl)
  rw [hoff, Nat.add_zero]
  match a with
  | ⟨0, _⟩ => exact (congrArg (· + _) (GatherDims.start_batching _ _ _ _ (List.mem_singleton.mpr rfl))).trans ((Nat.zero_add _).trans rfl)
  | ⟨1, _⟩ =>
    exact (congrArg (_ + ·) (GatherDims.batchCoord_eq_zero pickD _ (1 : Fin 2) (fun h => absurd (List.mem_singleton.mp h) (by decide)))).trans (pick_start idx t)

/-- The take of one matrix per token: token `t` gets the matrix at its clamped expert. -/
theorem take_apply (x : S64x128x256.Idx → α) (idx : IVec S256x1 32) (t : Fin 256) (j : Fin 128) (o : Fin 256) :
    Host.gather takeD x idx (ix3 t j o) = x (ix3 (clampE (idx (ix2 t 0))) j o) := by
  unfold Host.gather
  congr 1
  funext a
  refine Fin.ext ?_
  show GatherDims.start takeD (ix3 t j o) idx a + GatherDims.batchCoord takeD (ix3 t j o) a + GatherDims.offCoord takeD (ix3 t j o) a = _
  rw [GatherDims.batchCoord_eq_zero _ _ _ List.not_mem_nil, Nat.add_zero]
  have h0 (a : Fin 3) (ha : a ≠ 0) : GatherDims.start takeD (ix3 t j o) idx a = 0 :=
    dif_neg fun h => ha (List.mem_singleton.mp h)
  match a with
  | ⟨0, _⟩ =>
    exact (congrArg (_ + ·) (GatherDims.offCoord_eq_zero takeD _ (0 : Fin 3)
      (fun h => ((GatherDims.mem_sKept takeD 0).mp h).1 (List.mem_singleton.mpr rfl)))).trans (take_start idx t j o)
  | ⟨1, _⟩ => exact (congrArg (· + _) (h0 1 (by decide))).trans ((Nat.zero_add _).trans rfl)
  | ⟨2, _⟩ => exact (congrArg (· + _) (h0 2 (by decide))).trans ((Nat.zero_add _).trans rfl)

end Cert.Router

end
-- ==== Proof.Value.Reference.lean ====
/-
# The reference's result, read at an index

The reference's one composed term, cut at its named values, and each read at an index.
-/
module

public import proofs.«01_k».proof.Proof.Gen.ReferenceIdeal.Run
public import proofs.«01_k».proof.Proof.Value.Gather
public import proofs.«01_k».proof.Proof.Value.Terms

@[expose] public section

noncomputable section

namespace Cert.Router

open Idealize.ShloMosaic
open Cert.ReferenceIdeal Cert.ReferenceIdeal.Facts₀ Cert.ReferenceIdeal.Facts

/-- The softmax, as the reference writes it. -/
def refProb (x : FVec Ideal S256x128 .bf16) (w : FVec Ideal S128x64 .bf16) : FVec Ideal S256x64 .f32 :=
  let s : FVec Ideal S256x64 .f32 := Host.dotGeneral dot_S256x128_S128x64_S256x64_1_0_0_1_n_n none (extf .f32 x bitsLt_bf16_f32) (extf .f32 w bitsLt_bf16_f32)
  let mx := Host.reduce FloatOps.maximumf s (constant (F := Ideal) S_ .f32 0xFF800000#32) reducesTo_S256x64_S256_d1 h_S_
  let e := Host.exp (subf s (broadcastInDim S256x64 ![0, 1] bcast_S256x1_S256x64_0_1 (broadcastInDim S256x1 ![0] bcast_S256_S256x1_0 mx)))
  Host.divf e (broadcastInDim S256x64 ![0, 1] bcast_S256x1_S256x64_0_1 (broadcastInDim S256x1 ![0] bcast_S256_S256x1_0 (Host.reduceAdd e (constant (F := Ideal) S_ .f32 0x00000000#32) reducesTo_S256x64_S256_d1 h_S_)))

/-- The tokens' first experts. -/
def refCol0 (i : IVec S256x2 32) : IVec S256 32 := shapeCast _ (extractStridedSlice S256x1 ![0, 0] i slices_S256x2_S256x1_0_0) shapeCasts_S256x1_S256
/-- The tokens' second experts. -/
def refCol1 (i : IVec S256x2 32) : IVec S256 32 := shapeCast _ (extractStridedSlice S256x1 ![0, 1] i slices_S256x2_S256x1_0_1) shapeCasts_S256x1_S256

/-- A column of experts, a negative one wrapped, for the pick. -/
def refWrap (b : IVec S256 32) : IVec S256x1x1 32 :=
  let col := broadcastInDim S256x1 ![0] bcast_S256_S256x1_0 b
  shapeCast _ (select (cmpi .slt col (broadcastInDim S256x1 ![] bcast_S_S256x1 (constantI S_ 32 0#32))) (addi col (broadcastInDim S256x1 ![] bcast_S_S256x1 (constantI S_ 32 64#32))) col) shapeCasts_S256x1_S256x1x1

/-- Whether the pick's index is one of the 64 experts. -/
def refMask (b : IVec S256 32) : IVec S256x1 1 :=
  Host.reduce IntOp.andi (andi (cmpi .sge (refWrap b) (broadcastInDim S256x1x1 ![] bcast_S_S256x1x1 (constantI S_ 32 0#32)))
    (cmpi .sle (refWrap b) (broadcastInDim S256x1x1 ![0, 1, 2] bcast_S1x1x1_S256x1x1_0_1_2 (broadcastInDim S1x1x1 ![2] bcast_S1_S1x1x1_2 (constantI S1 32 63#32)))))
    (constantI S_ 1 1#1) reducesTo_S256x1x1_S256x1_d2 h_S_

/-- A column of gates: each token's probability at its expert. -/
def refGate (p : FVec Ideal S256x64 .f32) (b : IVec S256 32) : FVec Ideal S256x1 .f32 :=
  select (refMask b) (Host.gather gather_S256x64_S256x1x1_S256x1_n_1_0_0_1_2_11 p (refWrap b))
    (broadcastInDim S256x1 ![] bcast_S_S256x1 (constant (F := Ideal) S_ .f32 0x7FC00000#32))

/-- Each token through its expert's matrix. -/
def refRow (x : FVec Ideal S256x128 .bf16) (W : FVec Ideal S64x128x256 .bf16) (b : IVec S256 32) : FVec Ideal S256x256 .f32 :=
  Host.dotGeneral dot_S256x128_S256x128x256_S256x256_1_1_n_2_0_0 none (extf .f32 x bitsLt_bf16_f32)
    (Host.gather gather_S64x128x256_S256x1_S256x128x256_12_0_n_n_0_1_1128256 (extf .f32 W bitsLt_bf16_f32)
      (broadcastInDim S256x1 ![0] bcast_S256_S256x1_0 (select (cmpi .slt b (broadcastInDim S256 ![] bcast_S_S256 (constantI S_ 32 0#32)))
        (addi b (broadcastInDim S256 ![] bcast_S_S256 (constantI S_ 32 64#32))) b)))

/-- The two experts' rows, weighted by the gates over their sum. -/
def refOut (x : FVec Ideal S256x128 .bf16) (w : FVec Ideal S128x64 .bf16) (i : IVec S256x2 32) (W : FVec Ideal S64x128x256 .bf16) : FVec Ideal S256x256 .f32 :=
  let p := refProb x w
  let g0 := refGate p (refCol0 i)
  let g1 := refGate p (refCol1 i)
  addf (mulf (broadcastInDim S256x256 ![0, 1] bcast_S256x1_S256x256_0_1 (Host.divf g0 (addf g0 g1))) (refRow x W (refCol0 i)))
    (mulf (broadcastInDim S256x256 ![0, 1] bcast_S256x1_S256x256_0_1 (Host.divf g1 (addf g0 g1))) (refRow x W (refCol1 i)))

set_option maxRecDepth 8192 in
/-- The reference's result is that term of its arguments. -/
theorem ref_eq (m : (ℓ : Loc nD τ sig) → Buf (Elt Ideal) ℓ) (c : Dev nD) :
    Value.res_main_v44 m c = refOut (m ((c.tc : Thread nD τ).loc main_arg0)) (m ((c.tc : Thread nD τ).loc main_arg1))
      (m ((c.tc : Thread nD τ).loc main_arg2)) (m ((c.tc : Thread nD τ).loc main_arg3)) := by
  unfold Value.res_main_v44; rfl

/-- The reference's softmax at an index. -/
theorem refProb_apply (x : Tok) (w : Rtr) (t : Fin 256) (e : Fin 64) : refProb x w (ix2 t e) = prob x w t e := by
  unfold prob num top score
  pointwise [refProb]

/-- The first column of experts at a token. -/
theorem refCol0_apply (i : Sel) (t : Fin 256) : refCol0 i (ix1 t) = i (ix2 t 0) := by
  pointwise [refCol0]
/-- The second. -/
theorem refCol1_apply (i : Sel) (t : Fin 256) : refCol1 i (ix1 t) = i (ix2 t 1) := by
  pointwise [refCol1]

/-- An expert's index word is not negative, so nothing wraps it. -/
theorem eW_wrap (e : Fin 64) :
    Scalar.select (IntOp.cmpi CmpIPredicate.slt (eW e) 0#32) (IntOp.addi (eW e) 64#32) (eW e) = eW e := by
  revert e; decide
/-- Clamped, it is the expert. -/
theorem clampE_eW (e : Fin 64) : clampE (eW e) = e := by
  revert e; decide

variable {b : IVec S256 32} {t : Fin 256} {e : Fin 64} (hb : b (ix1 t) = eW e)
include hb

/-- The index the pick reads at a token sent to expert `e`. -/
theorem refWrap_apply : refWrap b (ix3 t 0 0) = eW e := by
  pointwise [refWrap]
  rw [hb, eW_wrap]

/-- No index of an expert is masked. -/
theorem refMask_apply : refMask b (ix2 t 0) = 1#1 := by
  pointwise [refMask]
  rw [Finset.univ_unique, Finset.fold_singleton]
  show IntOp.andi (IntOp.andi (IntOp.cmpi _ (refWrap b (ix3 t 0 0)) _) (IntOp.cmpi _ (refWrap b (ix3 t 0 0)) _)) _ = _
  rw [refWrap_apply hb]
  clear hb; revert e; decide

/-- A token's gate is its probability at its expert. -/
theorem refGate_apply (p : FVec Ideal S256x64 .f32) : refGate p b (ix2 t 0) = p (ix2 t e) := by
  unfold refGate
  show Scalar.select (refMask b (ix2 t 0)) (Host.gather pickD p (refWrap b) (ix2 t 0)) _ = _
  rw [refMask_apply hb, pick_apply, refWrap_apply hb, clampE_eW]
  rfl

/-- A token's row is its row through its expert's matrix. -/
theorem refRow_apply (x : Tok) (W : FVec Ideal S64x128x256 .bf16) (o : Fin 256) : refRow x W b (ix2 t o) = through x W t e o := by
  unfold through
  pointwise [refRow]
  refine Finset.sum_congr rfl fun j _ => congrArg (x (ix2 t j) * ·) ?_
  refine (take_apply _ _ t j o).trans ?_
  pointwise
  rw [hb, eW_wrap, clampE_eW]

omit hb in
/-- The reference's result: the mixture of the token's two experts. -/
theorem refOut_apply (x : Tok) (w : Rtr) (i : Sel) (W : FVec Ideal S64x128x256 .bf16) (o : Fin 256) {e0 e1 : Fin 64}
    (h0 : i (ix2 t 0) = eW e0) (h1 : i (ix2 t 1) = eW e1) : refOut x w i W (ix2 t o) = mix x w W e0 e1 t o := by
  unfold mix
  pointwise [refOut]
  rw [refGate_apply ((refCol0_apply i t).trans h0), refGate_apply ((refCol1_apply i t).trans h1),
    refRow_apply ((refCol0_apply i t).trans h0), refRow_apply ((refCol1_apply i t).trans h1), refProb_apply, refProb_apply]

end Cert.Router

end
-- ==== Proof.Value.Pre.lean ====
/-
# What the precondition says

The side conditions of the stated predicate, and its three conjuncts read at an index: finite tokens, a finite router, and
choices among the 64 experts.
-/
module

public import proofs.«01_k».proof.Pre_routed_KernelIdeal
public import proofs.«01_k».proof.Pre_routed_ReferenceIdeal
public import proofs.«01_k».proof.Proof.Value.Math

@[expose] public section

noncomputable section

namespace Cert.Router

open Idealize.ShloMosaic

/-- The predicate's broadcasts are of a scalar. -/
theorem pre_facts : Cert.Pre_routed_KernelIdeal.Facts where
  bcast_S_S256x128 := by decide
  bcast_S_S128x64 := by decide
  bcast_S_S256x2 := by decide

/-- The same, where the predicate is stated of the reference. -/
theorem pre_facts_ref : Cert.Pre_routed_ReferenceIdeal.Facts where
  bcast_S_S256x128 := by decide
  bcast_S_S128x64 := by decide
  bcast_S_S256x2 := by decide

/-- An extended real whose absolute value is below infinity is a real. -/
theorem isReal_of_lt (v : EReal) (h : BitVec.ofBool (decide (max v (-v) < Ideal.ofBits .bf16 0x7F80#16)) = 1#1) : IsReal v := by
  have hT : Ideal.ofBits .bf16 0x7F80#16 = ⊤ := by simp [Ideal.ofBits, Ideal.ieee]
  rw [hT] at h
  have hlt : max v (-v) < ⊤ := by
    by_contra hn
    rw [decide_eq_false hn] at h
    exact absurd h (by decide)
  have h1 : v ≠ ⊤ := ne_of_lt ((le_max_left _ _).trans_lt hlt)
  have h2 : v ≠ ⊥ := by
    rintro rfl
    exact absurd ((le_max_right _ _).trans_lt hlt) (by simp)
  exact ⟨v.toReal, (EReal.coe_toReal h1 h2).symm⟩

variable [Cert.Pre_routed_KernelIdeal.Facts] {x : Tok} {w : Rtr} {i : Sel} {W : (⟨3, ![2, 128, 256]⟩ : Shape).Idx → EReal}
open Cert.Pre_routed_KernelIdeal

/-- The tokens are finite. -/
theorem tok_real (h : (fn (F := Ideal) x w i W).1 = fun _ => 1#1) (t : Fin 256) (j : Fin 128) : IsReal (x (ix2 t j)) := by
  have := congrFun h (ix2 t j)
  unfold fn at this
  pointwise at this
  exact isReal_of_lt _ this

/-- The router is finite. -/
theorem rtr_real (h : (fn (F := Ideal) x w i W).2.1 = fun _ => 1#1) (j : Fin 128) (e : Fin 64) : IsReal (w (ix2 j e)) := by
  have := congrFun h (ix2 j e)
  unfold fn at this
  pointwise at this
  exact isReal_of_lt _ this

/-- Each choice is one of the 64 experts. -/
theorem choice (h : (fn (F := Ideal) x w i W).2.2 = fun _ => 1#1) (t : Fin 256) (k : Fin 2) : ∃ e, i (ix2 t k) = eW e := by
  have := congrFun h (ix2 t k)
  unfold fn at this
  pointwise at this
  have hand : ∀ c d : BitVec 1, IntOp.andi c d = 1#1 → c = 1#1 ∧ d = 1#1 := by decide
  obtain ⟨h0, h1⟩ := hand _ _ this
  exact exists_eW _ h0 h1

end Cert.Router

end
-- ==== Proof.lean ====
/-
# The certificate

The frames are the runs with the values dropped; the value claim is the kernel's run read at an index, where it is the mixture
of each token's two experts, which is what the reference computes.
-/
module

public import proofs.«01_k».proof.Defs
public import proofs.«01_k».proof.Proof.Kernel.Final
public import proofs.«01_k».proof.Proof.Value.Kernel
public import proofs.«01_k».proof.Proof.Value.Reference
public import proofs.«01_k».proof.Proof.Value.Pre
public import Idealize.ShloMosaic.Adequacy
public import Idealize.ShloMosaic.Init

@[expose] public section

noncomputable section

namespace Cert.Proof

open Idealize.ShloMosaic Idealize.SL.Sem Cert.Router

/-- The kernel's frame. -/
theorem kernel_frame : Cert.quiescent_Kernel := fun m g _ => Cert.KernelRun.run_frame m g

/-- The idealized kernel's frame. -/
theorem ideal_frame : Cert.quiescent_KernelIdeal := fun m g _ => Cert.KernelIdealRun.run_frame m g

/-- The reference's frame: it has no semaphores. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

section Value

variable [hPre : Cert.Pre_routed_KernelIdeal.Facts]

/-- A device's result is its block of the reference's. -/
theorem result_block
    (m : (ℓ : Loc Cert.KernelIdeal.nD Cert.KernelIdeal.τ Cert.KernelIdeal.sig) → Buf (Elt Ideal) ℓ)
    (x : Tok) (w : Rtr) (i : Sel) (W : (⟨3, ![64, 128, 256]⟩ : Shape).Idx → EReal)
    (hm : Cert.Pre_KernelIdeal_routed_KernelIdeal m)
    (hX : ∀ c : Dev Cert.KernelIdeal.nD, m ((c.tc : Thread Cert.KernelIdeal.nD Cert.KernelIdeal.τ).loc Cert.KernelIdeal.main_arg0) = x)
    (hR : ∀ c : Dev Cert.KernelIdeal.nD, m ((c.tc : Thread Cert.KernelIdeal.nD Cert.KernelIdeal.τ).loc Cert.KernelIdeal.main_arg1) = w)
    (hI : ∀ c : Dev Cert.KernelIdeal.nD, m ((c.tc : Thread Cert.KernelIdeal.nD Cert.KernelIdeal.τ).loc Cert.KernelIdeal.main_arg2) = i)
    (hW : ∀ c : Dev Cert.KernelIdeal.nD, m ((c.tc : Thread Cert.KernelIdeal.nD Cert.KernelIdeal.τ).loc Cert.KernelIdeal.main_arg3)
      = Layout.block ⟨3, ![2, 128, 256]⟩ ⟨3, ![64, 128, 256]⟩ 0 32 c W)
    (c : Dev Cert.KernelIdeal.nD) :
    Cert.KernelIdealRun.outV m c = Layout.block ⟨2, ![8, 256]⟩ ⟨2, ![256, 256]⟩ 0 32 c (refOut x w i W) := by
  obtain ⟨hx, hw, hi⟩ := hm c
  rw [hX c, hR c, hI c] at hx hw hi
  funext y
  obtain ⟨r, o, rfl⟩ : ∃ (r : Fin 8) (o : Fin 256), y = ix2 r o :=
    ⟨y 0, y 1, funext fun a => match a with | ⟨0, _⟩ => rfl | ⟨1, _⟩ => rfl⟩
  obtain ⟨a, ha⟩ := choice hi (tokOf c r) 0
  obtain ⟨b, hb⟩ := choice hi (tokOf c r) 1
  refine (outV_apply m hX hR hI hW (tok_real hx) (rtr_real hw) c r o ha hb).trans ?_
  refine (refOut_apply x w i W o ha hb).symm.trans ?_
  rw [Layout.block_apply]
  refine congrArg (refOut x w i W) (funext fun a => ?_)
  match a with
  | ⟨0, _⟩ => rfl
  | ⟨1, _⟩ => rfl

/-- The value claim: on every device the kernel's result is its block of the reference's. -/
theorem value : Cert.algebraic_KernelIdeal_ReferenceIdeal_pre_routed_KernelIdeal := fun m g m' g' hm hb =>
  ⟨Cert.ReferenceIdeal.Value.res_main_v44 m' 0,
    (θ_run Cert.KernelIdeal.defs _ _).mono
      (fun r h c => ⟨((h.1 c).1.trans (result_block m _ _ _ _ hm (fun c => (hb c).1) (fun c => (hb c).2.1) (fun c => (hb c).2.2.1)
        (fun c => (hb c).2.2.2) c)).trans
          (congrArg (fun v => Layout.block ⟨2, ![8, 256]⟩ ⟨2, ![256, 256]⟩ 0 32 c v) (ref_eq m' 0).symm), (h.1 c).2⟩)
      (Cert.KernelIdealRun.run_value m g),
    (θ_run Cert.ReferenceIdeal.defs _ _).mono (fun r h => h 0) (Cert.ReferenceIdeal.Value.run m' g')⟩

end Value

/-- All the claims together. -/
theorem claim : Cert.Claim :=
  ⟨Cert.Kernel.Gen.facts, Cert.KernelIdeal.Gen.facts, Cert.ReferenceIdeal.Gen.facts, pre_facts, pre_facts_ref,
    kernel_frame, ideal_frame, fun m g _ => ideal_frame m g trivial, reference_frame, fun m g _ => reference_frame m g trivial,
    trivial, value (hPre := pre_facts)⟩

end Cert.Proof

end
